-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite [hPre_finite : Cert.Pre_finite.Facts] (m : (ℓ : Loc Cert.InProjIdeal.nD Cert.InProjIdeal.τ Cert.InProjIdeal.sig) → Buf (Elt Ideal) ℓ) : Prop :=
  ∀ c : Dev Cert.InProjIdeal.nD,
    (Cert.Pre_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite [hPre_finite : Cert.Pre_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_router [hPre_finite_router : Cert.Pre_finite_router.Facts] (m : (ℓ : Loc Cert.MergeIdeal.nD Cert.MergeIdeal.τ Cert.MergeIdeal.sig) → Buf (Elt Ideal) ℓ) : Prop :=
  ∀ c : Dev Cert.MergeIdeal.nD,
    (Cert.Pre_finite_router.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_router [hPre_finite_router : Cert.Pre_finite_router.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_router.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14))) = (fun _ => 1#1)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_finite [hInProjIdeal : Cert.InProjIdeal.Facts] [hPre_finite : Cert.Pre_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_finite [hInProjRefIdeal : Cert.InProjRefIdeal.Facts] [hPre_finite : Cert.Pre_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeIdeal_pre_finite_router [hMergeIdeal : Cert.MergeIdeal.Facts] [hPre_finite_router : Cert.Pre_finite_router.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_router m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_MergeRefIdeal_pre_finite_router [hMergeRefIdeal : Cert.MergeRefIdeal.Facts] [hPre_finite_router : Cert.Pre_finite_router.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_router m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v9)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v9) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v9) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_InProj_InProjIdeal : Prop :=
  True

def algebraic_InProjIdeal_InProjRefIdeal_pre_finite [hInProjIdeal : Cert.InProjIdeal.Facts] [hInProjRefIdeal : Cert.InProjRefIdeal.Facts] [hPre_finite : Cert.Pre_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v46_0)) (v1 : (c : Dev Cert.InProjIdeal.nD) → Buf (Elt Ideal) ((c.tc : Thread Cert.InProjIdeal.nD Cert.InProjIdeal.τ).loc Cert.InProjIdeal.main_v46_1)) (v2 : (c : Dev Cert.InProjIdeal.nD) → Buf (Elt Ideal) ((c.tc : Thread Cert.InProjIdeal.nD Cert.InProjIdeal.τ).loc Cert.InProjIdeal.main_v46_2)) (v3 : (c : Dev Cert.InProjIdeal.nD) → Buf (Elt Ideal) ((c.tc : Thread Cert.InProjIdeal.nD Cert.InProjIdeal.τ).loc Cert.InProjIdeal.main_v46_3)) (v4 : (c : Dev Cert.InProjIdeal.nD) → Buf (Elt Ideal) ((c.tc : Thread Cert.InProjIdeal.nD Cert.InProjIdeal.τ).loc Cert.InProjIdeal.main_v46_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v46_0) = v0 c
          ∧ r.2.mem ((c.tc : Thread Cert.InProjIdeal.nD Cert.InProjIdeal.τ).loc Cert.InProjIdeal.main_v46_1) = v1 c
          ∧ r.2.mem ((c.tc : Thread Cert.InProjIdeal.nD Cert.InProjIdeal.τ).loc Cert.InProjIdeal.main_v46_2) = v2 c
          ∧ r.2.mem ((c.tc : Thread Cert.InProjIdeal.nD Cert.InProjIdeal.τ).loc Cert.InProjIdeal.main_v46_3) = v3 c
          ∧ r.2.mem ((c.tc : Thread Cert.InProjIdeal.nD Cert.InProjIdeal.τ).loc Cert.InProjIdeal.main_v46_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v120) = v0 c
          ∧ r.2.mem ((c.tc : Thread Cert.InProjRefIdeal.nD Cert.InProjRefIdeal.τ).loc Cert.InProjRefIdeal.main_v126) = v1 c
          ∧ r.2.mem ((c.tc : Thread Cert.InProjRefIdeal.nD Cert.InProjRefIdeal.τ).loc Cert.InProjRefIdeal.main_v129) = v2 c
          ∧ r.2.mem ((c.tc : Thread Cert.InProjRefIdeal.nD Cert.InProjRefIdeal.τ).loc Cert.InProjRefIdeal.main_v131) = v3 c
          ∧ r.2.mem ((c.tc : Thread Cert.InProjRefIdeal.nD Cert.InProjRefIdeal.τ).loc Cert.InProjRefIdeal.main_v133) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Merge_MergeIdeal : Prop :=
  True

def algebraic_MergeIdeal_MergeRefIdeal_pre_finite_router [hMergeIdeal : Cert.MergeIdeal.Facts] [hMergeRefIdeal : Cert.MergeRefIdeal.Facts] [hPre_finite_router : Cert.Pre_finite_router.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_router m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v12_0)) (v1 : (c : Dev Cert.MergeIdeal.nD) → Buf (Elt Ideal) ((c.tc : Thread Cert.MergeIdeal.nD Cert.MergeIdeal.τ).loc Cert.MergeIdeal.main_v12_1)) (v2 : (c : Dev Cert.MergeIdeal.nD) → Buf (Elt Ideal) ((c.tc : Thread Cert.MergeIdeal.nD Cert.MergeIdeal.τ).loc Cert.MergeIdeal.main_v12_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v12_0) = v0 c
          ∧ r.2.mem ((c.tc : Thread Cert.MergeIdeal.nD Cert.MergeIdeal.τ).loc Cert.MergeIdeal.main_v12_1) = v1 c
          ∧ r.2.mem ((c.tc : Thread Cert.MergeIdeal.nD Cert.MergeIdeal.τ).loc Cert.MergeIdeal.main_v12_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v52) = v0 c
          ∧ r.2.mem ((c.tc : Thread Cert.MergeRefIdeal.nD Cert.MergeRefIdeal.τ).loc Cert.MergeRefIdeal.main_v111) = v1 c
          ∧ r.2.mem ((c.tc : Thread Cert.MergeRefIdeal.nD Cert.MergeRefIdeal.τ).loc Cert.MergeRefIdeal.main_v112) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14))

def Claim : Prop :=
  ∃ (hMoe : Cert.Moe.Facts) (hMoeIdeal : Cert.MoeIdeal.Facts) (hMoeRefIdeal : Cert.MoeRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hPre_finite : Cert.Pre_finite.Facts) (hPre_finite_router : Cert.Pre_finite_router.Facts),
    quiescent_Moe (hMoe := hMoe)
    ∧ quiescent_MoeIdeal (hMoeIdeal := hMoeIdeal)
    ∧ quiescent_MoeRefIdeal (hMoeRefIdeal := hMoeRefIdeal)
    ∧ quiescent_InProj (hInProj := hInProj)
    ∧ quiescent_InProjIdeal (hInProjIdeal := hInProjIdeal)
    ∧ quiescent_InProjIdeal_pre_finite (hInProjIdeal := hInProjIdeal) (hPre_finite := hPre_finite)
    ∧ quiescent_InProjRefIdeal (hInProjRefIdeal := hInProjRefIdeal)
    ∧ quiescent_InProjRefIdeal_pre_finite (hInProjRefIdeal := hInProjRefIdeal) (hPre_finite := hPre_finite)
    ∧ quiescent_Merge (hMerge := hMerge)
    ∧ quiescent_MergeIdeal (hMergeIdeal := hMergeIdeal)
    ∧ quiescent_MergeIdeal_pre_finite_router (hMergeIdeal := hMergeIdeal) (hPre_finite_router := hPre_finite_router)
    ∧ quiescent_MergeRefIdeal (hMergeRefIdeal := hMergeRefIdeal)
    ∧ quiescent_MergeRefIdeal_pre_finite_router (hMergeRefIdeal := hMergeRefIdeal) (hPre_finite_router := hPre_finite_router)
    ∧ preserves_Moe_MoeIdeal
    ∧ algebraic_MoeIdeal_MoeRefIdeal (hMoeIdeal := hMoeIdeal) (hMoeRefIdeal := hMoeRefIdeal)
    ∧ preserves_InProj_InProjIdeal
    ∧ algebraic_InProjIdeal_InProjRefIdeal_pre_finite (hInProjIdeal := hInProjIdeal) (hInProjRefIdeal := hInProjRefIdeal) (hPre_finite := hPre_finite)
    ∧ preserves_Merge_MergeIdeal
    ∧ algebraic_MergeIdeal_MergeRefIdeal_pre_finite_router (hMergeIdeal := hMergeIdeal) (hMergeRefIdeal := hMergeRefIdeal) (hPre_finite_router := hPre_finite_router)
-- ==== Pre_finite.lean ====
abbrev S4x8192x1024 : Shape := ⟨3, ![4, 8192, 1024]⟩
abbrev S1024 : Shape := ⟨1, ![1024]⟩
abbrev S1024x4096 : Shape := ⟨2, ![1024, 4096]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S4x8192x1024 .f32) (main_arg1 : FVec F S1024 .f32) (main_arg2 : FVec F S1024x4096 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4096 .f32 := Host.absf main_arg2
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Pre_finite_router.lean ====
abbrev S4x32768x128 : Shape := ⟨3, ![4, 32768, 128]⟩
abbrev S32768x2560 : Shape := ⟨2, ![32768, 2560]⟩
abbrev S32768x512 : Shape := ⟨2, ![32768, 512]⟩
abbrev S32768x1024 : Shape := ⟨2, ![32768, 1024]⟩
abbrev S512 : Shape := ⟨1, ![512]⟩
abbrev S512x512 : Shape := ⟨2, ![512, 512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S4x32768x128 .f32) (main_arg1 : FVec F S32768x2560 .f32) (main_arg2 : FVec F S32768x512 .bf16) (main_arg3 : FVec F S32768x1024 .f32) (main_arg4 : FVec F S512 .f32) (main_arg5 : FVec F S512x512 .f32) (main_arg6 : FVec F S512 .f32) (main_arg7 : FVec F S512x1024 .f32) (main_arg8 : FVec F S512x1024 .f32) (main_arg9 : FVec F S1024x1024 .f32) (main_arg10 : FVec F S1024 .f32) (main_arg11 : FVec F S1024x4 .f32) (main_arg12 : FVec F S4 .f32) (main_arg13 : FVec F S1024x32 .f32) (main_arg14 : FVec F S32 .f32) : IVec S_ 1 :=
  let main_v0 : FVec F S1024 .f32 := Host.absf main_arg10
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4 .f32 := Host.absf main_arg11
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S1024x32 .f32 := Host.absf main_arg13
  let main_cst_2 : FVec F S_ .f32 := constant S_ .f32 0x7F800000#32
  let main_v10 : FVec F S1024x32 .f32 := broadcastInDim S1024x32 ![] bcast_S_S1024x32 main_cst_2
  let main_v11 : IVec S1024x32 1 := cmpf .olt main_v9 main_v10
  let main_c_3 : IVec S_ 1 := constantI S_ 1 1#1
  let main_v12 : IVec S_ 1 := (fun x v => Host.reduce IntOp.andi x v reducesTo_S1024x32_S_d0_1 h_S_) main_v11 main_c_3
  let main_v13 : IVec S_ 1 := andi main_v8 main_v12
  let main_v14 : FVec F S32 .f32 := Host.absf main_arg14
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Moe.lean ====
abbrev S32768x1024 : Shape := ⟨2, ![32768, 1024]⟩
abbrev S32768x128 : Shape := ⟨2, ![32768, 128]⟩
abbrev S32x1024x128 : Shape := ⟨3, ![32, 1024, 128]⟩
abbrev S32x128x1024 : Shape := ⟨3, ![32, 128, 1024]⟩
abbrev S1024x32x128 : Shape := ⟨3, ![1024, 32, 128]⟩
abbrev S1024x4096 : Shape := ⟨2, ![1024, 4096]⟩
abbrev S4096x1024 : Shape := ⟨2, ![4096, 1024]⟩
abbrev S512x1024 : Shape := ⟨2, ![512, 1024]⟩
abbrev S512x128 : Shape := ⟨2, ![512, 128]⟩
abbrev S512x4096 : Shape := ⟨2, ![512, 4096]⟩
abbrev S1024x512 : Shape := ⟨2, ![1024, 512]⟩
abbrev S512x512 : Shape := ⟨2, ![512, 512]⟩
abbrev S512x1 : Shape := ⟨2, ![512, 1]⟩

abbrev nBuf : Space → Nat
  | .hbm => 16
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S32768x1024, .f32⟩
  | .hbm, ⟨3, _⟩ => ⟨S32x1024x128, .f32⟩
  | .hbm, ⟨4, _⟩ => ⟨S32x1024x128, .f32⟩
  | .hbm, ⟨5, _⟩ => ⟨S32x128x1024, .f32⟩
  | .hbm, ⟨6, _⟩ => ⟨S1024x32x128, .f32⟩
  | .hbm, ⟨7, _⟩ => ⟨S1024x4096, .f32⟩
  | .hbm, ⟨8, _⟩ => ⟨S1024x4096, .bf16⟩
  | .hbm, ⟨9, _⟩ => ⟨S1024x32x128, .f32⟩
  | .hbm, ⟨10, _⟩ => ⟨S1024x4096, .f32⟩
  | .hbm, ⟨11, _⟩ => ⟨S1024x4096, .bf16⟩
  | .hbm, ⟨12, _⟩ => ⟨S4096x1024, .f32⟩
  | .hbm, ⟨13, _⟩ => ⟨S4096x1024, .bf16⟩
  | .hbm, ⟨14, _⟩ => ⟨S32768x1024, .bf16⟩
  | .hbm, ⟨15, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S512x1024, .f32⟩
  | .local _ .vmem, ⟨5, _⟩ => ⟨S512x1024, .f32⟩
  | .local _ .vmem, ⟨6, _⟩ => ⟨S1024x4096, .bf16⟩
  | .local _ .vmem, ⟨7, _⟩ => ⟨S1024x4096, .bf16⟩
  | .local _ .vmem, ⟨8, _⟩ => ⟨S4096x1024, .bf16⟩
  | .local _ .vmem, ⟨9, _⟩ => ⟨S512x1024, .f32⟩
  | .local _ .vmem, ⟨10, _⟩ => ⟨S512x1024, .f32⟩
  | .local _ .vmem, ⟨11, _⟩ => ⟨S512x4096, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MoeRefIdeal.lean ====
abbrev S32768x1024 : Shape := ⟨2, ![32768, 1024]⟩
abbrev S32768x128 : Shape := ⟨2, ![32768, 128]⟩
abbrev S32x1024x128 : Shape := ⟨3, ![32, 1024, 128]⟩
abbrev S32x128x1024 : Shape := ⟨3, ![32, 128, 1024]⟩
abbrev S32768x32x128 : Shape := ⟨3, ![32768, 32, 128]⟩
abbrev S_ : Shape := ⟨0, ![]⟩
abbrev S32768x32 : Shape := ⟨2, ![32768, 32]⟩
abbrev S32768x32x1 : Shape := ⟨3, ![32768, 32, 1]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S32768x1024, .f32⟩
  | .hbm, ⟨3, _⟩ => ⟨S32x1024x128, .f32⟩
  | .hbm, ⟨4, _⟩ => ⟨S32x1024x128, .f32⟩
  | .hbm, ⟨5, _⟩ => ⟨S32x128x1024, .f32⟩
  | .hbm, ⟨6, _⟩ => ⟨S32768x32x128, .f32⟩
  | .hbm, ⟨7, _⟩ => ⟨S32768x32x128, .f32⟩
  | .hbm, ⟨8, _⟩ => ⟨S32768x32x128, .f32⟩
  | .hbm, ⟨9, _⟩ => ⟨S32768x32x128, .f32⟩
  | .hbm, ⟨10, _⟩ => ⟨S_, .f32⟩
  | .hbm, ⟨11, _⟩ => ⟨S32768x32x128, .f32⟩
  | .hbm, ⟨12, _⟩ => ⟨S32768x32x128, .f32⟩
  | .hbm, ⟨13, _⟩ => ⟨S_, .f32⟩
  | .hbm, ⟨14, _⟩ => ⟨S32768x32x128, .f32⟩
  | .hbm, ⟨15, _⟩ => ⟨S32768x32x128, .f32⟩
  | .hbm, ⟨16, _⟩ => ⟨S32768x32x128, .f32⟩
  | .hbm, ⟨17, _⟩ => ⟨S32768x32x128, .f32⟩
  | .hbm, ⟨18, _⟩ => ⟨S32768x32, .f32⟩
  | .hbm, ⟨19, _⟩ => ⟨S32768x32x1, .f32⟩
  | .hbm, ⟨20, _⟩ => ⟨S32768x32x128, .f32⟩
  | .hbm, ⟨21, _⟩ => ⟨S32768x32x128, .f32⟩
  | .hbm, ⟨22, _⟩ => ⟨S32768x1024, .f32⟩
  | .hbm, ⟨23, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩

abbrev nD : Nat := 1
abbrev τ : Topo := Topo.v7x

variable {F : FTy → Type} [FloatOps F]
-- ==== InProj.lean ====
abbrev S4x8192x1024 : Shape := ⟨3, ![4, 8192, 1024]⟩
abbrev S1024 : Shape := ⟨1, ![1024]⟩
abbrev S1024x4096 : Shape := ⟨2, ![1024, 4096]⟩
abbrev S64 : Shape := ⟨1, ![64]⟩
abbrev S32768x1024 : Shape := ⟨2, ![32768, 1024]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S32768x2560 : Shape := ⟨2, ![32768, 2560]⟩
abbrev S4x8192x512 : Shape := ⟨3, ![4, 8192, 512]⟩
abbrev S4x512x8192 : Shape := ⟨3, ![4, 512, 8192]⟩
abbrev S4x32x1x512 : Shape := ⟨4, ![4, 32, 1, 512]⟩
abbrev S256x1024 : Shape := ⟨2, ![256, 1024]⟩
abbrev S256x128 : Shape := ⟨2, ![256, 128]⟩
abbrev S256x2560 : Shape := ⟨2, ![256, 2560]⟩
abbrev S1x256x512 : Shape := ⟨3, ![1, 256, 512]⟩
abbrev S1x512x256 : Shape := ⟨3, ![1, 512, 256]⟩
abbrev S1x1x1x512 : Shape := ⟨4, ![1, 1, 1, 512]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S512x256 : Shape := ⟨2, ![512, 256]⟩

abbrev nBuf : Space → Nat
  | .hbm => 136
  | .vmem => 23
  | .smem => 0
  | _ => 0

abbrev hbmTy0_0 (i : Nat) : BufTy := match i % 128 with
  | 0 => ⟨S4x8192x1024, .f32⟩
  | 1 => ⟨S1024, .f32⟩
  | 2 => ⟨S1024x4096, .f32⟩
  | 3 => ⟨S64, .f32⟩
  | 4 => ⟨S64, .f32⟩
  | 5 => ⟨S32768x1024, .f32⟩
  | 6 => ⟨S1024x4096, .bf16⟩
  | 7 => ⟨S128, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S128, .i32⟩
  | 15 => ⟨S128, .i32⟩
  | 16 => ⟨S_, .i32⟩
  | 17 => ⟨S128, .i32⟩
  | 18 => ⟨S128, .i1⟩
  | 19 => ⟨S_, .i32⟩
  | 20 => ⟨S128, .i32⟩
  | 21 => ⟨S128, .i1⟩
  | 22 => ⟨S_, .i32⟩
  | 23 => ⟨S_, .i1⟩
  | 24 => ⟨S128, .i1⟩
  | 25 => ⟨S128, .i1⟩
  | 26 => ⟨S128, .i1⟩
  | 27 => ⟨S128, .i32⟩
  | 28 => ⟨S128, .i32⟩
  | 29 => ⟨S128, .i32⟩
  | 30 => ⟨S_, .i32⟩
  | 31 => ⟨S128, .i32⟩
  | 32 => ⟨S128, .i1⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S128, .i32⟩
  | 40 => ⟨S128, .i32⟩
  | 41 => ⟨S_, .i32⟩
  | 42 => ⟨S128, .i32⟩
  | 43 => ⟨S128, .i1⟩
  | 44 => ⟨S_, .i32⟩
  | 45 => ⟨S128, .i32⟩
  | 46 => ⟨S128, .i1⟩
  | 47 => ⟨S_, .i32⟩
  | 48 => ⟨S_, .i1⟩
  | 49 => ⟨S128, .i1⟩
  | 50 => ⟨S128, .i1⟩
  | 51 => ⟨S128, .i1⟩
  | 52 => ⟨S128, .i32⟩
  | 53 => ⟨S128, .i32⟩
  | 54 => ⟨S128, .i32⟩
  | 55 => ⟨S128, .f32⟩
  | 56 => ⟨S128, .f32⟩
  | 57 => ⟨S_, .f32⟩
  | 58 => ⟨S128, .f32⟩
  | 59 => ⟨S128, .f32⟩
  | 60 => ⟨S_, .f32⟩
  | 61 => ⟨S128, .f32⟩
  | 62 => ⟨S128, .f32⟩
  | 63 => ⟨S_, .f32⟩
  | 64 => ⟨S128, .f32⟩
  | 65 => ⟨S128, .f32⟩
  | 66 => ⟨S_, .f32⟩
  | 67 => ⟨S_, .f32⟩
  | 68 => ⟨S128, .f32⟩
  | 69 => ⟨S128, .f32⟩
  | 70 => ⟨S8192, .f32⟩
  | 71 => ⟨S8192x1, .f32⟩
  | 72 => ⟨S1x128, .f32⟩
  | 73 => ⟨S8192x128, .f32⟩
  | 74 => ⟨S8192x128, .f32⟩
  | 75 => ⟨S8192x128, .f32⟩
  | 76 => ⟨S8192x128, .f32⟩
  | 77 => ⟨S8192x128, .f32⟩
  | 78 => ⟨S_, .f32⟩
  | 79 => ⟨S_, .f32⟩
  | 80 => ⟨S8192x128, .i1⟩
  | 81 => ⟨S8192x128, .f32⟩
  | 82 => ⟨S8192x128, .f32⟩
  | 83 => ⟨S_, .i32⟩
  | 84 => ⟨S128, .i32⟩
  | 85 => ⟨S128, .i1⟩
  | 86 => ⟨S8192x128, .f32⟩
  | 87 => ⟨S_, .f32⟩
  | 88 => ⟨S_, .f32⟩
  | 89 => ⟨S8192x128, .i1⟩
  | 90 => ⟨S8192x128, .f32⟩
  | 91 => ⟨S8192x128, .f32⟩
  | 92 => ⟨S_, .i32⟩
  | 93 => ⟨S128, .i32⟩
  | 94 => ⟨S128, .i1⟩
  | 95 => ⟨S128, .i1⟩
  | 96 => ⟨S_, .f32⟩
  | 97 => ⟨S_, .f32⟩
  | 98 => ⟨S8192x128, .i1⟩
  | 99 => ⟨S8192x128, .f32⟩
  | 100 => ⟨S8192x128, .f32⟩
  | 101 => ⟨S512, .i32⟩
  | 102 => ⟨S_, .i32⟩
  | 103 => ⟨S_, .i32⟩
  | 104 => ⟨S512, .i32⟩
  | 105 => ⟨S512, .i32⟩
  | 106 => ⟨S512, .i32⟩
  | 107 => ⟨S_, .i32⟩
  | 108 => ⟨S512, .i32⟩
  | 109 => ⟨S512, .i1⟩
  | 110 => ⟨S512, .i32⟩
  | 111 => ⟨S512, .i32⟩
  | 112 => ⟨S_, .i32⟩
  | 113 => ⟨S512, .i32⟩
  | 114 => ⟨S512, .i1⟩
  | 115 => ⟨S512, .i1⟩
  | 116 => ⟨S_, .i32⟩
  | 117 => ⟨S512, .i32⟩
  | 118 => ⟨S512, .i32⟩
  | 119 => ⟨S512, .i32⟩
  | 120 => ⟨S512x1, .i32⟩
  | 121 => ⟨S1x512, .i32⟩
  | 122 => ⟨S512x512, .i32⟩
  | 123 => ⟨S512x512, .i32⟩
  | 124 => ⟨S512x512, .i1⟩
  | 125 => ⟨S512x512, .bf16⟩
  | 126 => ⟨S1x1024, .f32⟩
  | 127 => ⟨S128, .f32⟩
  | _ => ⟨S4x8192x1024, .f32⟩

abbrev hbmTy0_1 (i : Nat) : BufTy := match i % 128 with
  | 0 => ⟨S1x128, .f32⟩
  | 1 => ⟨S128, .f32⟩
  | 2 => ⟨S1x128, .f32⟩
  | 3 => ⟨S32768x2560, .f32⟩
  | 4 => ⟨S4x8192x512, .f32⟩
  | 5 => ⟨S4x8192x512, .bf16⟩
  | 6 => ⟨S4x512x8192, .bf16⟩
  | 7 => ⟨S4x32x1x512, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S1x128, .f32⟩
  | .local _ .vmem, ⟨5, _⟩ => ⟨S1x128, .f32⟩
  | .local _ .vmem, ⟨6, _⟩ => ⟨S512x512, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x2560, .f32⟩
  | .local _ .vmem, ⟨14, _⟩ => ⟨S256x2560, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .bf16⟩
  | .local _ .vmem, ⟨18, _⟩ => ⟨S1x256x512, .bf16⟩
  | .local _ .vmem, ⟨19, _⟩ => ⟨S1x512x256, .bf16⟩
  | .local _ .vmem, ⟨20, _⟩ => ⟨S1x512x256, .bf16⟩
  | .local _ .vmem, ⟨21, _⟩ => ⟨S1x1x1x512, .f32⟩
  | .local _ .vmem, ⟨22, _⟩ => ⟨S1x1x1x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v3 : Ref sig .tc := ⟨.hbm, 29, rfl⟩
abbrev main_c_0 : Ref sig .tc := ⟨.hbm, 30, rfl⟩
abbrev main_v4 : Ref sig .tc := ⟨.hbm, 31, rfl⟩
abbrev main_v5 : Ref sig .tc := ⟨.hbm, 32, rfl⟩
abbrev main_c_1 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_cst : Ref sig .tc := ⟨.hbm, 57, rfl⟩
abbrev main_v9 : Ref sig .tc := ⟨.hbm, 58, rfl⟩
abbrev main_v10 : Ref sig .tc := ⟨.hbm, 59, rfl⟩
abbrev main_cst_2 : Ref sig .tc := ⟨.hbm, 60, rfl⟩
abbrev main_v11 : Ref sig .tc := ⟨.hbm, 61, rfl⟩
abbrev main_v12 : Ref sig .tc := ⟨.hbm, 62, rfl⟩
abbrev main_cst_3 : Ref sig .tc := ⟨.hbm, 63, rfl⟩
abbrev main_v13 : Ref sig .tc := ⟨.hbm, 64, rfl⟩
abbrev main_v14 : Ref sig .tc := ⟨.hbm, 65, rfl⟩
abbrev main_cst_4 : Ref sig .tc := ⟨.hbm, 66, rfl⟩
abbrev main_call2_v0 : Ref sig .tc := ⟨.hbm, 67, rfl⟩
abbrev main_call2_v1 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_cst_5 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v24 : Ref sig .tc := ⟨.hbm, 82, rfl⟩
abbrev main_c_6 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_cst_7 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_v28 : Ref sig .tc := ⟨.hbm, 91, rfl⟩
abbrev main_c_8 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_9 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_v32 : Ref sig .tc := ⟨.hbm, 100, rfl⟩
abbrev main_v33 : Ref sig .tc := ⟨.hbm, 101, rfl⟩
abbrev main_c_10 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_call6_v5 : Ref sig .tc := ⟨.hbm, 108, rfl⟩
abbrev main_call6_v6 : Ref sig .tc := ⟨.hbm, 109, rfl⟩
abbrev main_call6_v7 : Ref sig .tc := ⟨.hbm, 110, rfl⟩
abbrev main_call6_v8 : Ref sig .tc := ⟨.hbm, 111, rfl⟩
abbrev main_call6_c : Ref sig .tc := ⟨.hbm, 112, rfl⟩
abbrev main_call6_v9 : Ref sig .tc := ⟨.hbm, 113, rfl⟩
abbrev main_call6_v10 : Ref sig .tc := ⟨.hbm, 114, rfl⟩
abbrev main_call6_v11 : Ref sig .tc := ⟨.hbm, 115, rfl⟩
abbrev main_call6_c_0 : Ref sig .tc := ⟨.hbm, 116, rfl⟩
abbrev main_call6_v12 : Ref sig .tc := ⟨.hbm, 117, rfl⟩
abbrev main_call6_v13 : Ref sig .tc := ⟨.hbm, 118, rfl⟩
abbrev main_v34 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46_0 : Ref sig .tc := ⟨.hbm, 131, rfl⟩
abbrev main_v46_1 : Ref sig .tc := ⟨.hbm, 132, rfl⟩
abbrev main_v46_2 : Ref sig .tc := ⟨.hbm, 133, rfl⟩
abbrev main_v46_3 : Ref sig .tc := ⟨.hbm, 134, rfl⟩
abbrev main_v46_4 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x2560 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== InProjRefIdeal.lean ====
abbrev S4x8192x1024 : Shape := ⟨3, ![4, 8192, 1024]⟩
abbrev S1024 : Shape := ⟨1, ![1024]⟩
abbrev S1024x4096 : Shape := ⟨2, ![1024, 4096]⟩
abbrev S64 : Shape := ⟨1, ![64]⟩
abbrev S8192 : Shape := ⟨1, ![8192]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S4x8192x512 : Shape := ⟨3, ![4, 8192, 512]⟩
abbrev S4x8192x8x64 : Shape := ⟨4, ![4, 8192, 8, 64]⟩
abbrev S4x8x8192x64 : Shape := ⟨4, ![4, 8, 8192, 64]⟩
abbrev S4x8x8192 : Shape := ⟨3, ![4, 8, 8192]⟩
abbrev S4x8x8192x1 : Shape := ⟨4, ![4, 8, 8192, 1]⟩
abbrev S1x1x1x64 : Shape := ⟨4, ![1, 1, 1, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S4x8x8192x8 : Shape := ⟨4, ![4, 8, 8192, 8]⟩
abbrev S1x1x8192x8 : Shape := ⟨4, ![1, 1, 8192, 8]⟩
abbrev S4x8x8192x16 : Shape := ⟨4, ![4, 8, 8192, 16]⟩
abbrev S4x8x8192x48 : Shape := ⟨4, ![4, 8, 8192, 48]⟩
abbrev S4x8192x2560 : Shape := ⟨3, ![4, 8192, 2560]⟩
abbrev S32768x2560 : Shape := ⟨2, ![32768, 2560]⟩
abbrev S4x8x32x256x64 : Shape := ⟨5, ![4, 8, 32, 256, 64]⟩
abbrev S4x8x32x64 : Shape := ⟨4, ![4, 8, 32, 64]⟩
abbrev S4x512x8192 : Shape := ⟨3, ![4, 512, 8192]⟩
abbrev S4x32x8x64 : Shape := ⟨4, ![4, 32, 8, 64]⟩
abbrev S4x32x1x512 : Shape := ⟨4, ![4, 32, 1, 512]⟩

abbrev nBuf : Space → Nat
  | .hbm => 156
  | .vmem => 0
  | .smem => 0
  | _ => 0

abbrev hbmTy0_0 (i : Nat) : BufTy := match i % 128 with
  | 0 => ⟨S4x8192x1024, .f32⟩
  | 1 => ⟨S1024, .f32⟩
  | 2 => ⟨S1024x4096, .f32⟩
  | 3 => ⟨S64, .f32⟩
  | 4 => ⟨S64, .f32⟩
  | 5 => ⟨S8192, .f32⟩
  | 6 => ⟨S4x8192x1024, .f32⟩
  | 7 => ⟨S_, .f32⟩
  | 8 => ⟨S4x8192, .f32⟩
  | 9 => ⟨S4x8192x1, .f32⟩
  | 10 => ⟨S_, .f32⟩
  | 11 => ⟨S4x8192x1, .f32⟩
  | 12 => ⟨S4x8192x1, .f32⟩
  | 13 => ⟨S_, .f32⟩
  | 14 => ⟨S4x8192x1, .f32⟩
  | 15 => ⟨S4x8192x1, .f32⟩
  | 16 => ⟨S4x8192x1, .f32⟩
  | 17 => ⟨S4x8192x1024, .f32⟩
  | 18 => ⟨S4x8192x1024, .f32⟩
  | 19 => ⟨S1x1x1024, .f32⟩
  | 20 => ⟨S4x8192x1024, .f32⟩
  | 21 => ⟨S4x8192x1024, .f32⟩
  | 22 => ⟨S4x8192x4096, .f32⟩
  | 23 => ⟨S4x8192x512, .f32⟩
  | 24 => ⟨S4x8192x512, .f32⟩
  | 25 => ⟨S4x8192x512, .f32⟩
  | 26 => ⟨S4x8192x512, .f32⟩
  | 27 => ⟨S4x8192x1024, .f32⟩
  | 28 => ⟨S4x8192x1024, .f32⟩
  | 29 => ⟨S4x8192x8x64, .f32⟩
  | 30 => ⟨S4x8x8192x64, .f32⟩
  | 31 => ⟨S4x8x8192x64, .f32⟩
  | 32 => ⟨S_, .f32⟩
  | 33 => ⟨S4x8x8192, .f32⟩
  | 34 => ⟨S4x8x8192x1, .f32⟩
  | 35 => ⟨S_, .f32⟩
  | 36 => ⟨S4x8x8192x1, .f32⟩
  | 37 => ⟨S4x8x8192x1, .f32⟩
  | 38 => ⟨S_, .f32⟩
  | 39 => ⟨S4x8x8192x1, .f32⟩
  | 40 => ⟨S4x8x8192x1, .f32⟩
  | 41 => ⟨S4x8x8192x1, .f32⟩
  | 42 => ⟨S4x8x8192x64, .f32⟩
  | 43 => ⟨S4x8x8192x64, .f32⟩
  | 44 => ⟨S1x1x1x64, .f32⟩
  | 45 => ⟨S4x8x8192x64, .f32⟩
  | 46 => ⟨S4x8x8192x64, .f32⟩
  | 47 => ⟨S8, .f32⟩
  | 48 => ⟨S8, .f32⟩
  | 49 => ⟨S_, .f32⟩
  | 50 => ⟨S8, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S8192x1, .f32⟩
  | 59 => ⟨S1x8, .f32⟩
  | 60 => ⟨S8192x8, .f32⟩
  | 61 => ⟨S8192x8, .f32⟩
  | 62 => ⟨S8192x8, .f32⟩
  | 63 => ⟨S8192x8, .f32⟩
  | 64 => ⟨S8192x8, .f32⟩
  | 65 => ⟨S4x8x8192x8, .f32⟩
  | 66 => ⟨S4x8x8192x8, .f32⟩
  | 67 => ⟨S1x1x8192x8, .f32⟩
  | 68 => ⟨S4x8x8192x8, .f32⟩
  | 69 => ⟨S4x8x8192x8, .f32⟩
  | 70 => ⟨S1x1x8192x8, .f32⟩
  | 71 => ⟨S4x8x8192x8, .f32⟩
  | 72 => ⟨S4x8x8192x8, .f32⟩
  | 73 => ⟨S4x8x8192x8, .f32⟩
  | 74 => ⟨S1x1x8192x8, .f32⟩
  | 75 => ⟨S4x8x8192x8, .f32⟩
  | 76 => ⟨S4x8x8192x8, .f32⟩
  | 77 => ⟨S1x1x8192x8, .f32⟩
  | 78 => ⟨S4x8x8192x8, .f32⟩
  | 79 => ⟨S4x8x8192x8, .f32⟩
  | 80 => ⟨S4x8x8192x8, .f32⟩
  | 81 => ⟨S4x8x8192x16, .f32⟩
  | 82 => ⟨S4x8x8192x48, .f32⟩
  | 83 => ⟨S4x8x8192x64, .f32⟩
  | 84 => ⟨S4x8192x8x64, .f32⟩
  | 85 => ⟨S4x8x8192x64, .f32⟩
  | 86 => ⟨S4x8x8192x64, .f32⟩
  | 87 => ⟨S_, .f32⟩
  | 88 => ⟨S4x8x8192, .f32⟩
  | 89 => ⟨S4x8x8192x1, .f32⟩
  | 90 => ⟨S_, .f32⟩
  | 91 => ⟨S4x8x8192x1, .f32⟩
  | 92 => ⟨S4x8x8192x1, .f32⟩
  | 93 => ⟨S_, .f32⟩
  | 94 => ⟨S4x8x8192x1, .f32⟩
  | 95 => ⟨S4x8x8192x1, .f32⟩
  | 96 => ⟨S4x8x8192x1, .f32⟩
  | 97 => ⟨S4x8x8192x64, .f32⟩
  | 98 => ⟨S4x8x8192x64, .f32⟩
  | 99 => ⟨S1x1x1x64, .f32⟩
  | 100 => ⟨S4x8x8192x64, .f32⟩
  | 101 => ⟨S4x8x8192x64, .f32⟩
  | 102 => ⟨S8, .f32⟩
  | 103 => ⟨S8, .f32⟩
  | 104 => ⟨S_, .f32⟩
  | 105 => ⟨S8, .f32⟩
  | 106 => ⟨S8, .f32⟩
  | 107 => ⟨S_, .f32⟩
  | 108 => ⟨S8, .f32⟩
  | 109 => ⟨S8, .f32⟩
  | 110 => ⟨S_, .f32⟩
  | 111 => ⟨S8, .f32⟩
  | 112 => ⟨S8, .f32⟩
  | 113 => ⟨S8192x1, .f32⟩
  | 114 => ⟨S1x8, .f32⟩
  | 115 => ⟨S8192x8, .f32⟩
  | 116 => ⟨S8192x8, .f32⟩
  | 117 => ⟨S8192x8, .f32⟩
  | 118 => ⟨S8192x8, .f32⟩
  | 119 => ⟨S8192x8, .f32⟩
  | 120 => ⟨S4x8x8192x8, .f32⟩
  | 121 => ⟨S4x8x8192x8, .f32⟩
  | 122 => ⟨S1x1x8192x8, .f32⟩
  | 123 => ⟨S4x8x8192x8, .f32⟩
  | 124 => ⟨S4x8x8192x8, .f32⟩
  | 125 => ⟨S1x1x8192x8, .f32⟩
  | 126 => ⟨S4x8x8192x8, .f32⟩
  | 127 => ⟨S4x8x8192x8, .f32⟩
  | _ => ⟨S4x8192x1024, .f32⟩

abbrev hbmTy0_1 (i : Nat) : BufTy := match i % 128 with
  | 0 => ⟨S4x8x8192x8, .f32⟩
  | 1 => ⟨S1x1x8192x8, .f32⟩
  | 2 => ⟨S4x8x8192x8, .f32⟩
  | 3 => ⟨S4x8x8192x8, .f32⟩
  | 4 => ⟨S1x1x8192x8, .f32⟩
  | 5 => ⟨S4x8x8192x8, .f32⟩
  | 6 => ⟨S4x8x8192x8, .f32⟩
  | 7 => ⟨S4x8x8192x8, .f32⟩
  | 8 => ⟨S4x8x8192x16, .f32⟩
  | 9 => ⟨S4x8x8192x48, .f32⟩
  | 10 => ⟨S4x8x8192x64, .f32⟩
  | 11 => ⟨S4x8192x2560, .f32⟩
  | 12 => ⟨S32768x2560, .f32⟩
  | 13 => ⟨S4x8x32x256x64, .f32⟩
  | 14 => ⟨S_, .f32⟩
  | 15 => ⟨S4x8x32x64, .f32⟩
  | 16 => ⟨S_, .f32⟩
  | 17 => ⟨S4x8x32x64, .f32⟩
  | 18 => ⟨S4x8x32x64, .f32⟩
  | 19 => ⟨S4x8192x8x64, .f32⟩
  | 20 => ⟨S4x8192x512, .f32⟩
  | 21 => ⟨S4x8192x8x64, .f32⟩
  | 22 => ⟨S4x8192x512, .f32⟩
  | 23 => ⟨S4x8192x512, .bf16⟩
  | 24 => ⟨S4x512x8192, .f32⟩
  | 25 => ⟨S4x512x8192, .bf16⟩
  | 26 => ⟨S4x32x8x64, .f32⟩
  | 27 => ⟨S4x32x1x512, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_8 : Ref sig .tc := ⟨.hbm, 87, rfl⟩
abbrev main_v73 : Ref sig .tc := ⟨.hbm, 88, rfl⟩
abbrev main_v74 : Ref sig .tc := ⟨.hbm, 89, rfl⟩
abbrev main_cst_9 : Ref sig .tc := ⟨.hbm, 90, rfl⟩
abbrev main_v75 : Ref sig .tc := ⟨.hbm, 91, rfl⟩
abbrev main_v76 : Ref sig .tc := ⟨.hbm, 92, rfl⟩
abbrev main_cst_10 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_11 : Ref sig .tc := ⟨.hbm, 104, rfl⟩
abbrev main_v87 : Ref sig .tc := ⟨.hbm, 105, rfl⟩
abbrev main_v88 : Ref sig .tc := ⟨.hbm, 106, rfl⟩
abbrev main_cst_12 : Ref sig .tc := ⟨.hbm, 107, rfl⟩
abbrev main_v89 : Ref sig .tc := ⟨.hbm, 108, rfl⟩
abbrev main_v90 : Ref sig .tc := ⟨.hbm, 109, rfl⟩
abbrev main_cst_13 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_cst_14 : Ref sig .tc := ⟨.hbm, 142, rfl⟩
abbrev main_v122 : Ref sig .tc := ⟨.hbm, 143, rfl⟩
abbrev main_cst_15 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩

abbrev nD : Nat := 1
abbrev τ : Topo := Topo.v7x

variable {F : FTy → Type} [FloatOps F]
-- ==== Merge.lean ====
abbrev S4x32768x128 : Shape := ⟨3, ![4, 32768, 128]⟩
abbrev S32768x2560 : Shape := ⟨2, ![32768, 2560]⟩
abbrev S32768x512 : Shape := ⟨2, ![32768, 512]⟩
abbrev S32768x1024 : Shape := ⟨2, ![32768, 1024]⟩
abbrev S512 : Shape := ⟨1, ![512]⟩
abbrev S512x512 : Shape := ⟨2, ![512, 512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1x512 : Shape := ⟨2, ![1, 512]⟩
abbrev S1x1024 : Shape := ⟨2, ![1, 1024]⟩
abbrev S32768x128 : Shape := ⟨2, ![32768, 128]⟩
abbrev S4x512x128 : Shape := ⟨3, ![4, 512, 128]⟩
abbrev S512x128 : Shape := ⟨2, ![512, 128]⟩
abbrev S1x512x128 : Shape := ⟨3, ![1, 512, 128]⟩
abbrev S512x1 : Shape := ⟨2, ![512, 1]⟩

abbrev nBuf : Space → Nat
  | .hbm => 32
  | .vmem => 27
  | .smem => 0
  | _ => 0

abbrev bufTy : (tb : Table) → Fin (tcTables nBuf tb) → BufTy
  | .hbm, ⟨0, _⟩ => ⟨S4x32768x128, .f32⟩
  | .hbm, ⟨1, _⟩ => ⟨S32768x2560, .f32⟩
  | .hbm, ⟨2, _⟩ => ⟨S32768x512, .bf16⟩
  | .hbm, ⟨3, _⟩ => ⟨S32768x1024, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x4, .f32⟩
  | .hbm, ⟨12, _⟩ => ⟨S4, .f32⟩
  | .hbm, ⟨13, _⟩ => ⟨S1024x32, .f32⟩
  | .hbm, ⟨14, _⟩ => ⟨S32, .f32⟩
  | .hbm, ⟨15, _⟩ => ⟨S_, .f32⟩
  | .hbm, ⟨16, _⟩ => ⟨S1024x92, .f32⟩
  | .hbm, ⟨17, _⟩ => ⟨S1024x128, .f32⟩
  | .hbm, ⟨18, _⟩ => ⟨S_, .f32⟩
  | .hbm, ⟨19, _⟩ => ⟨S92, .f32⟩
  | .hbm, ⟨20, _⟩ => ⟨S128, .f32⟩
  | .hbm, ⟨21, _⟩ => ⟨S1x128, .f32⟩
  | .hbm, ⟨22, _⟩ => ⟨S512x512, .bf16⟩
  | .hbm, ⟨23, _⟩ => ⟨S512x1024, .bf16⟩
  | .hbm, ⟨24, _⟩ => ⟨S512x1024, .bf16⟩
  | .hbm, ⟨25, _⟩ => ⟨S1024x1024, .bf16⟩
  | .hbm, ⟨26, _⟩ => ⟨S1x512, .f32⟩
  | .hbm, ⟨27, _⟩ => ⟨S1x512, .f32⟩
  | .hbm, ⟨28, _⟩ => ⟨S1x1024, .f32⟩
  | .hbm, ⟨29, _⟩ => ⟨S32768x1024, .f32⟩
  | .hbm, ⟨30, _⟩ => ⟨S32768x1024, .bf16⟩
  | .hbm, ⟨31, _⟩ => ⟨S32768x128, .f32⟩
  | .local _ .vmem, ⟨0, _⟩ => ⟨S4x512x128, .f32⟩
  | .local _ .vmem, ⟨1, _⟩ => ⟨S4x512x128, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x512, .f32⟩
  | .local _ .vmem, ⟨13, _⟩ => ⟨S512x512, .bf16⟩
  | .local _ .vmem, ⟨14, _⟩ => ⟨S1x512, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x128, .f32⟩
  | .local _ .vmem, ⟨20, _⟩ => ⟨S1x128, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S512x128, .f32⟩
  | .local _ .vmem, ⟨26, _⟩ => ⟨S512x128, .f32⟩
  | _, _ => ⟨S4x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12_0 : Ref sig .tc := ⟨.hbm, 29, rfl⟩
abbrev main_v12_1 : Ref sig .tc := ⟨.hbm, 30, rfl⟩
abbrev main_v12_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeRefIdeal.lean ====
abbrev S4x32768x128 : Shape := ⟨3, ![4, 32768, 128]⟩
abbrev S32768x2560 : Shape := ⟨2, ![32768, 2560]⟩
abbrev S32768x512 : Shape := ⟨2, ![32768, 512]⟩
abbrev S32768x1024 : Shape := ⟨2, ![32768, 1024]⟩
abbrev S512 : Shape := ⟨1, ![512]⟩
abbrev S512x512 : Shape := ⟨2, ![512, 512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S32768x4x128 : Shape := ⟨3, ![32768, 4, 128]⟩
abbrev S1x512 : Shape := ⟨2, ![1, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4 : Shape := ⟨2, ![32768, 4]⟩
abbrev S1x4 : Shape := ⟨2, ![1, 4]⟩
abbrev S32768x32 : Shape := ⟨2, ![32768, 32]⟩
abbrev S1x32 : Shape := ⟨2, ![1, 32]⟩
abbrev S32768x4x8 : Shape := ⟨3, ![32768, 4, 8]⟩
abbrev S32768x8 : Shape := ⟨2, ![32768, 8]⟩
abbrev S32768x2 : Shape := ⟨2, ![32768, 2]⟩
abbrev S32768x2x1 : Shape := ⟨3, ![32768, 2, 1]⟩
abbrev S1x1x32 : Shape := ⟨3, ![1, 1, 32]⟩
abbrev S32768x2x32 : Shape := ⟨3, ![32768, 2, 32]⟩
abbrev S32768x128 : Shape := ⟨2, ![32768, 128]⟩

abbrev nBuf : Space → Nat
  | .hbm => 165
  | .vmem => 0
  | .smem => 0
  | _ => 0

abbrev hbmTy0_0 (i : Nat) : BufTy := match i % 128 with
  | 0 => ⟨S4x32768x128, .f32⟩
  | 1 => ⟨S32768x2560, .f32⟩
  | 2 => ⟨S32768x512, .bf16⟩
  | 3 => ⟨S32768x1024, .f32⟩
  | 4 => ⟨S512, .f32⟩
  | 5 => ⟨S512x512, .f32⟩
  | 6 => ⟨S512, .f32⟩
  | 7 => ⟨S512x1024, .f32⟩
  | 8 => ⟨S512x1024, .f32⟩
  | 9 => ⟨S1024x1024, .f32⟩
  | 10 => ⟨S1024, .f32⟩
  | 11 => ⟨S1024x4, .f32⟩
  | 12 => ⟨S4, .f32⟩
  | 13 => ⟨S1024x32, .f32⟩
  | 14 => ⟨S32, .f32⟩
  | 15 => ⟨S32768x1024, .f32⟩
  | 16 => ⟨S32768x1024, .f32⟩
  | 17 => ⟨S32768x512, .f32⟩
  | 18 => ⟨S32768x4x128, .f32⟩
  | 19 => ⟨S32768x512, .f32⟩
  | 20 => ⟨S1x512, .f32⟩
  | 21 => ⟨S32768x512, .f32⟩
  | 22 => ⟨S32768x512, .f32⟩
  | 23 => ⟨S32768x512, .f32⟩
  | 24 => ⟨S32768x512, .f32⟩
  | 25 => ⟨S32768x512, .f32⟩
  | 26 => ⟨S_, .f32⟩
  | 27 => ⟨S32768x512, .f32⟩
  | 28 => ⟨S32768x512, .f32⟩
  | 29 => ⟨S32768x512, .f32⟩
  | 30 => ⟨S_, .f32⟩
  | 31 => ⟨S32768x512, .f32⟩
  | 32 => ⟨S32768x512, .f32⟩
  | 33 => ⟨S32768x512, .f32⟩
  | 34 => ⟨S_, .f32⟩
  | 35 => ⟨S32768x512, .f32⟩
  | 36 => ⟨S32768x512, .f32⟩
  | 37 => ⟨S_, .f32⟩
  | 38 => ⟨S32768x512, .f32⟩
  | 39 => ⟨S32768x512, .f32⟩
  | 40 => ⟨S32768x512, .f32⟩
  | 41 => ⟨S32768x512, .f32⟩
  | 42 => ⟨S1x512, .f32⟩
  | 43 => ⟨S32768x512, .f32⟩
  | 44 => ⟨S32768x512, .f32⟩
  | 45 => ⟨S32768x512, .f32⟩
  | 46 => ⟨S32768x512, .f32⟩
  | 47 => ⟨S_, .f32⟩
  | 48 => ⟨S32768x512, .f32⟩
  | 49 => ⟨S32768x512, .f32⟩
  | 50 => ⟨S_, .f32⟩
  | 51 => ⟨S32768x512, .f32⟩
  | 52 => ⟨S32768x512, .f32⟩
  | 53 => ⟨S32768x512, .f32⟩
  | 54 => ⟨S32768x1024, .f32⟩
  | 55 => ⟨S32768x512, .f32⟩
  | 56 => ⟨S32768x1024, .f32⟩
  | 57 => ⟨S32768x1024, .f32⟩
  | 58 => ⟨S32768x1024, .f32⟩
  | 59 => ⟨S_, .f32⟩
  | 60 => ⟨S32768x1024, .f32⟩
  | 61 => ⟨S32768x1024, .f32⟩
  | 62 => ⟨S_, .f32⟩
  | 63 => ⟨S32768x1024, .f32⟩
  | 64 => ⟨S32768x1024, .f32⟩
  | 65 => ⟨S32768x1024, .f32⟩
  | 66 => ⟨S32768x1024, .f32⟩
  | 67 => ⟨S32768x1024, .f32⟩
  | 68 => ⟨S_, .f32⟩
  | 69 => ⟨S32768x1024, .f32⟩
  | 70 => ⟨S32768x1024, .f32⟩
  | 71 => ⟨S_, .f32⟩
  | 72 => ⟨S32768x1024, .f32⟩
  | 73 => ⟨S32768x1024, .f32⟩
  | 74 => ⟨S32768x1024, .f32⟩
  | 75 => ⟨S32768x1024, .f32⟩
  | 76 => ⟨S32768x1024, .f32⟩
  | 77 => ⟨S32768x1024, .f32⟩
  | 78 => ⟨S32768x1024, .f32⟩
  | 79 => ⟨S_, .f32⟩
  | 80 => ⟨S32768, .f32⟩
  | 81 => ⟨S32768x1, .f32⟩
  | 82 => ⟨S_, .f32⟩
  | 83 => ⟨S32768x1, .f32⟩
  | 84 => ⟨S32768x1, .f32⟩
  | 85 => ⟨S_, .f32⟩
  | 86 => ⟨S32768x1, .f32⟩
  | 87 => ⟨S32768x1, .f32⟩
  | 88 => ⟨S32768x1, .f32⟩
  | 89 => ⟨S32768x1024, .f32⟩
  | 90 => ⟨S32768x1024, .f32⟩
  | 91 => ⟨S1x1024, .f32⟩
  | 92 => ⟨S32768x1024, .f32⟩
  | 93 => ⟨S32768x1024, .f32⟩
  | 94 => ⟨S32768x4, .f32⟩
  | 95 => ⟨S1x4, .f32⟩
  | 96 => ⟨S32768x4, .f32⟩
  | 97 => ⟨S32768x4, .f32⟩
  | 98 => ⟨S_, .f32⟩
  | 99 => ⟨S32768, .f32⟩
  | 100 => ⟨S_, .f32⟩
  | 101 => ⟨S32768, .f32⟩
  | 102 => ⟨S32768, .f32⟩
  | 103 => ⟨S32768x1, .f32⟩
  | 104 => ⟨S32768x4, .f32⟩
  | 105 => ⟨S32768x4, .f32⟩
  | 106 => ⟨S32768x4, .f32⟩
  | 107 => ⟨S_, .f32⟩
  | 108 => ⟨S32768, .f32⟩
  | 109 => ⟨S32768x1, .f32⟩
  | 110 => ⟨S32768x4, .f32⟩
  | 111 => ⟨S32768x4, .f32⟩
  | 112 => ⟨S32768x1, .f32⟩
  | 113 => ⟨S32768x1, .i32⟩
  | 114 => ⟨S32768x32, .f32⟩
  | 115 => ⟨S1x32, .f32⟩
  | 116 => ⟨S32768x32, .f32⟩
  | 117 => ⟨S32768x32, .f32⟩
  | 118 => ⟨S32768x4x8, .f32⟩
  | 119 => ⟨S32768, .i32⟩
  | 120 => ⟨S32768x1, .i32⟩
  | 121 => ⟨S1x4, .i32⟩
  | 122 => ⟨S32768x4, .i32⟩
  | 123 => ⟨S32768x4, .i32⟩
  | 124 => ⟨S32768x4, .i1⟩
  | 125 => ⟨S32768x4, .f32⟩
  | 126 => ⟨S32768x8, .f32⟩
  | 127 => ⟨S32768x2, .f32⟩
  | _ => ⟨S4x32768x128, .f32⟩

abbrev hbmTy0_1 (i : Nat) : BufTy := match i % 128 with
  | 0 => ⟨S32768x2, .i32⟩
  | 1 => ⟨S_, .f32⟩
  | 2 => ⟨S32768, .f32⟩
  | 3 => ⟨S_, .f32⟩
  | 4 => ⟨S32768, .f32⟩
  | 5 => ⟨S32768, .f32⟩
  | 6 => ⟨S32768x1, .f32⟩
  | 7 => ⟨S32768x2, .f32⟩
  | 8 => ⟨S32768x2, .f32⟩
  | 9 => ⟨S32768x2, .f32⟩
  | 10 => ⟨S_, .f32⟩
  | 11 => ⟨S32768, .f32⟩
  | 12 => ⟨S32768x1, .f32⟩
  | 13 => ⟨S32768x2, .f32⟩
  | 14 => ⟨S32768x2, .f32⟩
  | 15 => ⟨S32768x2, .f32⟩
  | 16 => ⟨S32768x2, .f32⟩
  | 17 => ⟨S_, .i32⟩
  | 18 => ⟨S32768x1, .i32⟩
  | 19 => ⟨S32768x1, .i32⟩
  | 20 => ⟨S32768x2, .i32⟩
  | 21 => ⟨S32768x2, .i32⟩
  | 22 => ⟨S32768x2x1, .i32⟩
  | 23 => ⟨S1x1x32, .i32⟩
  | 24 => ⟨S32768x2x32, .i32⟩
  | 25 => ⟨S32768x2x32, .i32⟩
  | 26 => ⟨S32768x2x32, .i1⟩
  | 27 => ⟨S32768x2x32, .f32⟩
  | 28 => ⟨S32768x2x1, .f32⟩
  | 29 => ⟨S32768x2x32, .f32⟩
  | 30 => ⟨S32768x2x32, .f32⟩
  | 31 => ⟨S_, .f32⟩
  | 32 => ⟨S32768x32, .f32⟩
  | 33 => ⟨S32768x1024, .bf16⟩
  | 34 => ⟨S_, .i32⟩
  | 35 => ⟨S_, .f32⟩
  | 36 => ⟨S32768x128, .f32⟩
  | _ => ⟨S4x32768x128, .f32⟩

abbrev hbmTy (i : Nat) : BufTy := match i / 128 with
  | 0 => hbmTy0_0 i
  | 1 => hbmTy0_1 i
  | _ => ⟨S4x32768x128, .f32⟩

abbrev bufTy : (tb : Table) → Fin (tcTables nBuf tb) → BufTy
  | .hbm, ⟨i, _⟩ => hbmTy i
  | _, _ => ⟨S4x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_values : Ref sig .tc := ⟨.hbm, 112, rfl⟩
abbrev main_indices : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call0_v0 : Ref sig .tc := ⟨.hbm, 120, rfl⟩
abbrev main_call0_v1 : Ref sig .tc := ⟨.hbm, 121, rfl⟩
abbrev main_call0_v2 : Ref sig .tc := ⟨.hbm, 122, rfl⟩
abbrev main_call0_v3 : Ref sig .tc := ⟨.hbm, 123, rfl⟩
abbrev main_call0_v4 : Ref sig .tc := ⟨.hbm, 124, rfl⟩
abbrev main_v87 : Ref sig .tc := ⟨.hbm, 125, rfl⟩
abbrev main_v88 : Ref sig .tc := ⟨.hbm, 126, rfl⟩
abbrev main_values_15 : Ref sig .tc := ⟨.hbm, 127, rfl⟩
abbrev main_indices_16 : Ref sig .tc := ⟨.hbm, 128, rfl⟩
abbrev main_cst_17 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_19 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_c : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_call1_v0 : Ref sig .tc := ⟨.hbm, 150, rfl⟩
abbrev main_call1_v1 : Ref sig .tc := ⟨.hbm, 151, rfl⟩
abbrev main_call1_v2 : Ref sig .tc := ⟨.hbm, 152, rfl⟩
abbrev main_call1_v3 : Ref sig .tc := ⟨.hbm, 153, rfl⟩
abbrev main_call1_v4 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_20 : Ref sig .tc := ⟨.hbm, 159, rfl⟩
abbrev main_v110 : Ref sig .tc := ⟨.hbm, 160, rfl⟩
abbrev main_v111 : Ref sig .tc := ⟨.hbm, 161, rfl⟩
abbrev main_c_21 : Ref sig .tc := ⟨.hbm, 162, rfl⟩
abbrev main_call2_v0 : Ref sig .tc := ⟨.hbm, 163, rfl⟩
abbrev main_v112 : Ref sig .tc := ⟨.hbm, 164, rfl⟩

abbrev nD : Nat := 1
abbrev τ : Topo := Topo.v7x

variable {F : FTy → Type} [FloatOps F]
-- ==== Proof.Moe.Value.lean ====
module

public import proofs.«01_k».proof.Proof.Gen.MoeIdeal.Value
public import proofs.«01_k».proof.Proof.Gen.MoeRefIdeal.Run
public import Idealize.ShloMosaic.Lib.Pipeline.ValueKit
public import Idealize.ShloMosaic.Lib.Pointwise
public import Idealize.ShloMosaic.Lib.Claim
public import proofs.«01_k».proof.Defs
public import proofs.«01_k».proof.Proof.Gen.MoeRefIdeal

@[expose] public section

set_option maxRecDepth 16384

noncomputable section

open Idealize.ShloMosaic Idealize.ShloMosaic.TcCoe Idealize.SL.Sem
open Idealize.ShloMosaic.Pipeline (Dat)

namespace Cert.MoeIdeal.Tokens
open Cert.MoeIdeal Cert.MoeIdeal.Gen
variable (m : (ℓ : Loc nD τ sig) → Buf (Elt Ideal) ℓ)

/-- Which block every window stages at grid point `t`: tokens by rows, weights whole. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] :=
  (by decide +kernel : ∀ t : Fin grid0.N, _)

/-- The experts' weighted activations of one block of tokens: entry `(r, n)` is that of expert `n / 128`. -/
def ACT (h : FVec Ideal S512x1024 .bf16) (cb : FVec Ideal S512x128 .f32) (wg wu : FVec Ideal S1024x4096 .bf16) :
    FVec Ideal S512x4096 .bf16 := fun j =>
  ((∑ k : Fin 1024, h (ix2 (j 0) k) * wg (ix2 k (j 1))) * Ideal.logistic (∑ k : Fin 1024, h (ix2 (j 0) k) * wg (ix2 k (j 1)))
    * (∑ k : Fin 1024, h (ix2 (j 0) k) * wu (ix2 k (j 1)))) * cb (ix2 (j 0) ⟨(j 1).val / 128, by have : (j 1).val < 4096 := (j 1).isLt; omega⟩)

/-- An entry of `ACT`, written with its row, column and expert named separately. -/
theorem act_entry (h : FVec Ideal S512x1024 .bf16) (cb : FVec Ideal S512x128 .f32) (wg wu : FVec Ideal S1024x4096 .bf16)
    (j : S512x4096.Idx) (r : Fin 512) (n : Fin 4096) (e : Fin 128) (hr : j 0 = r) (hn : j 1 = n) (he : e.val = n.val / 128) :
    ((∑ k : Fin 1024, h (ix2 r k) * wg (ix2 k n)) * Ideal.logistic (∑ k : Fin 1024, h (ix2 r k) * wg (ix2 k n))
      * (∑ k : Fin 1024, h (ix2 r k) * wu (ix2 k n))) * cb (ix2 r e) = ACT h cb wg wu j := by
  subst hr hn
  rw [show e = ⟨(j 1).val / 128, by have : (j 1).val < 4096 := (j 1).isLt; omega⟩ from Fin.ext he]
  rfl

/-- The output stored depends on the activations only through their entries. -/
theorem pay1_congr (x2 : FVec Ideal S512x1024 .f32) (A B : FVec Ideal S512x4096 .bf16) (W : FVec Ideal S4096x1024 .bf16) (y)
    (h : ∀ j, A j = B j) : k0_pay1 (F := Ideal) x2 A W y = k0_pay1 (F := Ideal) x2 B W y := by rw [funext h]

/-- The experts' mixture: the residual plus the sum over experts and their hidden units. -/
def OUT (t : FVec Ideal S32768x1024 .f32) (cb : FVec Ideal S32768x128 .f32) (x : FVec Ideal S32768x1024 .f32)
    (wg wu : FVec Ideal S32x1024x128 .f32) (wd : FVec Ideal S32x128x1024 .f32) : FVec Ideal S32768x1024 .f32 := fun i =>
  x i + ∑ e : Fin 32, ∑ d : Fin 128,
    ((∑ k : Fin 1024, t (ix2 (i 0) k) * wg (ix3 e k d)) * Ideal.logistic (∑ k : Fin 1024, t (ix2 (i 0) k) * wg (ix3 e k d))
      * (∑ k : Fin 1024, t (ix2 (i 0) k) * wu (ix3 e k d))) * cb (ix2 (i 0) (e.castLE (by decide))) * wd (ix3 e d (i 1))

/-- One block of the output: contracting all the hidden units of all experts at once is the double sum over experts and hidden units. -/
theorem block_eq (h : FVec Ideal S512x1024 .bf16) (cb : FVec Ideal S512x128 .f32) (x2 : FVec Ideal S512x1024 .f32)
    (wg wu : FVec Ideal S1024x4096 .bf16) (wd : FVec Ideal S4096x1024 .bf16)
    (T : FVec Ideal S32768x1024 .f32) (C : FVec Ideal S32768x128 .f32) (X : FVec Ideal S32768x1024 .f32)
    (G U : FVec Ideal S32x1024x128 .f32) (W : FVec Ideal S32x128x1024 .f32) (y : S512x1024.Idx) (i : S32768x1024.Idx)
    (hh : ∀ k : Fin 1024, h (ix2 (y 0) k) = T (ix2 (i 0) k)) (hc : ∀ e : Fin 128, cb (ix2 (y 0) e) = C (ix2 (i 0) e))
    (hx : x2 y = X i)
    (hg : ∀ (k : Fin 1024) (e : Fin 32) (d : Fin 128), wg (ix2 k ⟨e.val * 128 + d.val, by omega⟩) = G (ix3 e k d))
    (hu : ∀ (k : Fin 1024) (e : Fin 32) (d : Fin 128), wu (ix2 k ⟨e.val * 128 + d.val, by omega⟩) = U (ix3 e k d))
    (hw : ∀ (e : Fin 32) (d : Fin 128), wd (ix2 ⟨e.val * 128 + d.val, by omega⟩ (y 1)) = W (ix3 e d (i 1))) :
    k0_pay1 (F := Ideal) x2 (ACT h cb wg wu) wd y = OUT T C X G U W i := by
  have e1 : k0_pay1 (F := Ideal) x2 (ACT h cb wg wu) wd y = x2 y + ∑ n : Fin 4096, ACT h cb wg wu (ix2 (y 0) n) * wd (ix2 n (y 1)) := by
    pointwise [k0_pay1]
  rw [e1, hx, Fin.sum_univ_tiles 32 128 rfl (fun n : Fin 4096 => ACT h cb wg wu (ix2 (y 0) n) * wd (ix2 n (y 1)))]
  unfold OUT
  refine congrArg (X i + ·) (Finset.sum_congr rfl fun e _ => Finset.sum_congr rfl fun d _ => ?_)
  rw [← act_entry h cb wg wu (ix2 (y 0) ⟨e.val * 128 + d.val, by omega⟩) (y 0) ⟨e.val * 128 + d.val, by omega⟩
    (e.castLE (by decide)) rfl rfl (by simp only [Fin.val_castLE]; omega), hw, hc]
  simp only [hh, hg, hu]

/-- The token block read at point `t`. -/
theorem reads0 (c : Dev nD) (t : Fin cfg0.N) (y : Fin 512) (i : Fin 32768) (k : Fin 1024) (hi : i.val = t.val * 512 + y.val) :
    (iblk m c 0 t : FVec Ideal S512x1024 .bf16) (ix2 y k) = (m ((c : Thread nD τ).loc main_arg0) : FVec Ideal S32768x1024 .f32) (ix2 i k) := by
  blk_simp [iblk]
  entry_read
  pointwise
  blk_ext [idx t]

/-- The block of mixing weights read at point `t`. -/
theorem reads1 (c : Dev nD) (t : Fin cfg0.N) (y : Fin 512) (i : Fin 32768) (k : Fin 128) (hi : i.val = t.val * 512 + y.val) :
    (iblk m c 1 t : FVec Ideal S512x128 .f32) (ix2 y k) = (m ((c : Thread nD τ).loc main_arg1) : FVec Ideal S32768x128 .f32) (ix2 i k) := by
  blk_ext [iblk, V, idx t]

/-- The block of residuals read at point `t`. -/
theorem reads2 (c : Dev nD) (t : Fin cfg0.N) (y : S512x1024.Idx) (i : S32768x1024.Idx) (h0 : (i 0).val = t.val * 512 + (y 0).val) (h1 : (i 1).val = (y 1).val) :
    (iblk m c 2 t : FVec Ideal S512x1024 .f32) y = (m ((c : Thread nD τ).loc main_arg2) : FVec Ideal S32768x1024 .f32) i := by
  blk_ext [iblk, V, idx t]

/-- The gate weights, laid side by side expert by expert. -/
theorem reads3 (c : Dev nD) (t : Fin cfg0.N) (k : Fin 1024) (e : Fin 32) (d : Fin 128) : (iblk m c 3 t : FVec Ideal S1024x4096 .bf16) (ix2 k ⟨e.val * 128 + d.val, by omega⟩) = (m ((c : Thread nD τ).loc main_arg3) : FVec Ideal S32x1024x128 .f32) (ix3 e k d) := by
  blk_simp [iblk]
  entry_read
  pointwise
  blk_ext [idx t]

/-- The up weights, laid side by side expert by expert. -/
theorem reads4 (c : Dev nD) (t : Fin cfg0.N) (k : Fin 1024) (e : Fin 32) (d : Fin 128) : (iblk m c 4 t : FVec Ideal S1024x4096 .bf16) (ix2 k ⟨e.val * 128 + d.val, by omega⟩) = (m ((c : Thread nD τ).loc main_arg4) : FVec Ideal S32x1024x128 .f32) (ix3 e k d) := by
  blk_simp [iblk]
  entry_read
  pointwise
  blk_ext [idx t]

/-- The down weights, stacked expert by expert. -/
theorem reads5 (c : Dev nD) (t : Fin cfg0.N) (e : Fin 32) (d : Fin 128) (n : Fin 1024) : (iblk m c 5 t : FVec Ideal S4096x1024 .bf16) (ix2 ⟨e.val * 128 + d.val, by omega⟩ n) = (m ((c : Thread nD τ).loc main_arg5) : FVec Ideal S32x128x1024 .f32) (ix3 e d n) := by
  blk_simp [iblk]
  entry_read
  pointwise
  blk_ext [idx t]

set_option maxHeartbeats 2000000 in
/-- The result array after the run is `OUT` of the arguments. -/
theorem final (c : Dev nD) : (dats m 0 c).arrAt 6 (cfgs 0).N = OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  unfold outsAt0
  frame_out
  obtain ⟨h, hh⟩ : ∃ h : FVec Ideal S512x1024 .bf16, h = iblk m c 0 t := ⟨_, rfl⟩
  obtain ⟨cb, hcb⟩ : ∃ h : FVec Ideal S512x128 .f32, h = iblk m c 1 t := ⟨_, rfl⟩
  obtain ⟨x2, hx2⟩ : ∃ h : FVec Ideal S512x1024 .f32, h = iblk m c 2 t := ⟨_, rfl⟩
  obtain ⟨wg, hwg⟩ : ∃ h : FVec Ideal S1024x4096 .bf16, h = iblk m c 3 t := ⟨_, rfl⟩
  obtain ⟨wu, hwu⟩ : ∃ h : FVec Ideal S1024x4096 .bf16, h = iblk m c 4 t := ⟨_, rfl⟩
  obtain ⟨wd, hwd⟩ : ∃ h : FVec Ideal S4096x1024 .bf16, h = iblk m c 5 t := ⟨_, rfl⟩
  rw [← hh, ← hcb, ← hx2, ← hwg, ← hwu, ← hwd]
  refine (pay1_congr _ _ (ACT h cb wg wu) _ y fun j => ?_).trans ?_
  · rw [View.readCov_eq_canon_ld _ _ _ ?_, View.ld_unit_zero (funext fun a => by fin_cases a <;> rfl)]
    rotate_left
    · exact View.cover_of_tiledL _ S512x128.size (by sl_kernel_rfl)
    clear hh hcb hx2 hwg hwu hwd
    canon_tiles x h
    all_goals
      open_payloads
      pointwise
      exact act_entry h cb wg wu j (x 0) _ _ (Fin.ext h0) (Fin.ext (by simp only []; omega)) (by simp only []; omega)
  · subst hh hcb hx2 hwg hwu hwd
    have e0 : (((cfg0.win 6).blk t).view.emb y 0).val = t.val * 512 + (y 0).val := by blk_simp [idx t]
    have e1 : ((cfg0.win 6).blk t).view.emb y 1 = y 1 := Fin.ext (by blk_simp [idx t])
    refine block_eq _ _ _ _ _ _ _ _ _ _ _ _ y _ (fun k => reads0 m c t _ _ k e0) (fun e => reads1 m c t _ _ e e0)
      (reads2 m c t _ _ e0 (congrArg Fin.val e1)) (reads3 m c t) (reads4 m c t) fun e d => ?_
    rw [reads5 m c t e d (y 1)]
    exact congrArg (fun n => m ((c : Thread nD τ).loc main_arg5) (ix3 e d n)) e1.symm

/-- Kernel and reference return equal arrays. -/
theorem result : Cert.algebraic_MoeIdeal_MoeRefIdeal := by
  pair_intro
  · run_from Cert.MoeIdeal.Value.run_blocks m g
  · run_from Cert.MoeRefIdeal.Value.run m' g'
    refine Eq.trans ?_ (final m c).symm
    funext i
    pointwise [OUT]
    rfl

end Cert.MoeIdeal.Tokens
end
-- ==== Proof.InProj.Block.lean ====
module

public import proofs.«01_k».proof.Proof.Gen.InProjIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InProjIdeal.Block
open Cert.InProjIdeal Cert.InProjIdeal.Gen

/-- The small constant under the roots. -/
def eps : EReal := Ideal.ofBits .f32 0x358637BD#32

/-- One entry of the normed rows. -/
theorem normed (x : FVec Ideal S256x1024 .f32) (g : FVec Ideal S1x1024 .f32) (r : Fin 256) (k : Fin 1024) :
    k0_pay2 (F := Ideal) x g (ix2 r k)
      = x (ix2 r k) * Ideal.rsqrt (Ideal.div (∑ j : Fin 1024, x (ix2 r j) * x (ix2 r j)) (Ideal.ofBits .f32 0x44800000#32)
          + Ideal.ofBits .f32 0x358637BD#32) * g (ix2 0 k) := by
  pointwise [k0_pay2]

/-- One column of the projection of a block of rows. -/
theorem proj_tile (h : FVec Ideal S256x1024 .bf16) (w : FVec Ideal S1024x512 .bf16) (r : Fin 256) (d : Fin 512) :
    k0_pay13 (F := Ideal) h w (ix2 r d) = ∑ k : Fin 1024, h (ix2 r k) * w (ix2 k d) := by
  pointwise [k0_pay13]

/-- The reciprocal root for a column: squares summed over the column's head through the indicator matrix, the squares given as a value and its rounding error. -/
theorem inv_tile (h : FVec Ideal S256x1024 .bf16) (o : FVec Ideal S512x512 .bf16) (w : FVec Ideal S1024x512 .bf16) (r : Fin 256) (d : Fin 512) :
    k0_pay15 (F := Ideal) h o w (ix2 r d) = Ideal.rsqrt (((∑ e : Fin 512,
        (k0_pay13 (F := Ideal) h w (ix2 r e) * k0_pay13 (F := Ideal) h w (ix2 r e)) * o (ix2 e d))
      + ∑ e : Fin 512, (k0_pay13 (F := Ideal) h w (ix2 r e) * k0_pay13 (F := Ideal) h w (ix2 r e)
          - k0_pay13 (F := Ideal) h w (ix2 r e) * k0_pay13 (F := Ideal) h w (ix2 r e)) * o (ix2 e d))
      * Ideal.ofBits .f32 0x3C800000#32 + Ideal.ofBits .f32 0x358637BD#32) := by
  pointwise [k0_pay15, k0_pay9]

/-- A normed entry before the rotation. -/
def lanes (y inv : FVec Ideal S256x512 .f32) (g : FVec Ideal S1x128 .f32) (T : ℕ) (hT : T < 4) (r : Fin 256) (j : ℕ) (hj : j < 128) : EReal :=
  y (ix2 r ⟨T * 128 + j, by omega⟩) * inv (ix2 r ⟨T * 128 + j, by omega⟩) * g (ix2 0 ⟨j, hj⟩)

/-- One lane of a tile of 128 columns after the rotation: itself, its neighbour eight lanes up and its neighbour eight lanes down, each times its table. -/
def turned (ct sa sb : FVec Ideal S256x128 .f32) (y : FVec Ideal S256x512 .f32) (g : FVec Ideal S1x128 .f32)
    (inv : FVec Ideal S256x512 .f32) (T : ℕ) (hT : T < 4) (r : Fin 256) (l : Fin 128) : EReal :=
  lanes y inv g T hT r l.val l.isLt * ct (ix2 r l) + lanes y inv g T hT r ((l.val + 8) % 128) (Nat.mod_lt _ (by decide)) * sa (ix2 r l)
    + lanes y inv g T hT r ((l.val + 120) % 128) (Nat.mod_lt _ (by decide)) * sb (ix2 r l)

/-- Columns 0 to 127 after the rotation. -/
theorem rope_tile0 (ct sa sb : FVec Ideal S256x128 .f32) (y : FVec Ideal S256x512 .f32) (g : FVec Ideal S1x128 .f32)
    (inv : FVec Ideal S256x512 .f32) (y0 : FVec Ideal S256x128 .f32) (h0 : ∀ (r : Fin 256) (j : Fin 128), y0 (ix2 r j) = y (ix2 r ⟨j.val, by omega⟩)) (r : Fin 256) (l : Fin 128) :
    k0_pay17 (F := Ideal) ct sa sb y g inv y0 (ix2 r ⟨0 * 128 + l.val, by omega⟩) = turned ct sa sb y g inv 0 (by decide) r l := by
  have hl := l.isLt
  pointwise [k0_pay17]
  simp only [h0, turned, lanes, show l.val + 128 - 120 = l.val + 8 by omega, show l.val + 128 - 8 = l.val + 120 by omega, Nat.zero_mul, Nat.zero_add]

/-- Columns 128 to 255 after the rotation. -/
theorem rope_tile1 (ct sa sb : FVec Ideal S256x128 .f32) (y : FVec Ideal S256x512 .f32) (g : FVec Ideal S1x128 .f32)
    (inv : FVec Ideal S256x512 .f32) (y0 : FVec Ideal S256x128 .f32) (h0 : ∀ (r : Fin 256) (j : Fin 128), y0 (ix2 r j) = y (ix2 r ⟨j.val, by omega⟩)) (r : Fin 256) (l : Fin 128) :
    k0_pay17 (F := Ideal) ct sa sb y g inv y0 (ix2 r ⟨1 * 128 + l.val, by omega⟩) = turned ct sa sb y g inv 1 (by decide) r l := by
  have hl := l.isLt
  pointwise [k0_pay17]
  simp only [turned, lanes, show l.val + 128 - 120 = l.val + 8 by omega, show l.val + 128 - 8 = l.val + 120 by omega, Nat.one_mul]

/-- Columns 256 to 383 after the rotation. -/
theorem rope_tile2 (ct sa sb : FVec Ideal S256x128 .f32) (y : FVec Ideal S256x512 .f32) (g : FVec Ideal S1x128 .f32)
    (inv : FVec Ideal S256x512 .f32) (y0 : FVec Ideal S256x128 .f32) (h0 : ∀ (r : Fin 256) (j : Fin 128), y0 (ix2 r j) = y (ix2 r ⟨j.val, by omega⟩)) (r : Fin 256) (l : Fin 128) :
    k0_pay17 (F := Ideal) ct sa sb y g inv y0 (ix2 r ⟨2 * 128 + l.val, by omega⟩) = turned ct sa sb y g inv 2 (by decide) r l := by
  have hl := l.isLt
  pointwise [k0_pay17]
  rw [dif_neg (by omega), dif_neg (by omega), dif_pos (by omega)]
  simp only [turned, lanes, show 256 + l.val - 128 - 128 = l.val by omega, show l.val + 128 - 120 = l.val + 8 by omega, show l.val + 128 - 8 = l.val + 120 by omega, Nat.reduceMul]

/-- Columns 384 to 511 after the rotation. -/
theorem rope_tile3 (ct sa sb : FVec Ideal S256x128 .f32) (y : FVec Ideal S256x512 .f32) (g : FVec Ideal S1x128 .f32)
    (inv : FVec Ideal S256x512 .f32) (y0 : FVec Ideal S256x128 .f32) (h0 : ∀ (r : Fin 256) (j : Fin 128), y0 (ix2 r j) = y (ix2 r ⟨j.val, by omega⟩)) (r : Fin 256) (l : Fin 128) :
    k0_pay17 (F := Ideal) ct sa sb y g inv y0 (ix2 r ⟨3 * 128 + l.val, by omega⟩) = turned ct sa sb y g inv 3 (by decide) r l := by
  have hl := l.isLt
  pointwise [k0_pay17]
  rw [dif_neg (by omega), dif_neg (by omega), dif_neg (by omega)]
  simp only [turned, lanes, show 384 + l.val - 128 - 128 - 128 = l.val by omega, show l.val + 128 - 120 = l.val + 8 by omega, show l.val + 128 - 8 = l.val + 120 by omega, Nat.reduceMul]

/-- The first 128 columns, taken apart. -/
theorem queries0 (h : FVec Ideal S256x1024 .bf16) (w : FVec Ideal S1024x512 .bf16) (r : Fin 256) (j : Fin 128) :
    k0_pay16 (F := Ideal) h w (ix2 r j) = k0_pay13 (F := Ideal) h w (ix2 r ⟨j.val, by omega⟩) := by
  pointwise [k0_pay16]

/-- The keys take the queries' path: the same chain of operations on another third of the columns. -/
theorem keys_chain (ct sa sb : FVec Ideal S256x128 .f32) (h : FVec Ideal S256x1024 .bf16) (g : FVec Ideal S1x128 .f32) (o : FVec Ideal S512x512 .bf16)
    (w : FVec Ideal S1024x512 .bf16) :
    k0_pay26 (F := Ideal) ct sa sb (k0_pay19 h w) (k0_pay20 g) (k0_pay21 h (k0_pay9 o) w) (k0_pay22 h (k0_pay9 o) ct sa sb w g)
      (k0_pay23 h (k0_pay9 o) ct sa sb w g) (k0_pay24 h w) (k0_pay25 h (k0_pay9 o) w)
      = k0_pay17 ct sa sb (k0_pay13 h w) (k0_pay14 g) (k0_pay15 h o w) (k0_pay16 h w) := rfl

end Cert.InProjIdeal.Block
end
-- ==== Proof.InProj.Rotation.lean ====
/- Arithmetic over the extended reals that the kernel and its reference share: the rotation of a head's lanes, finite
   normed rows, and a square's rounding error that vanishes. -/
module

public import Idealize.ShloMosaic.PureOps
public import Idealize.ShloMosaic.Lib.Pointwise
public import Idealize.ShloMosaic.Lib.IdealHost

@[expose] public section

noncomputable section

open Idealize.ShloMosaic

namespace Cert.Rotation

/-- The rotation's angle: the position times the inverse frequency number `j`. -/
def ang (r j : ℕ) : EReal :=
  FloatOps.sitofp (F := Ideal) FTy.f32 (BitVec.ofNat 32 r) * Ideal.pow (Ideal.ofBits FTy.f32 0x48F42400#32)
    (Ideal.div (-FloatOps.sitofp (F := Ideal) FTy.f32 (BitVec.ofNat 32 j) * Ideal.ofBits FTy.f32 0x40000000#32)
      (Ideal.ofBits FTy.f32 0x41800000#32))

/-- Lane `e` of a head at position `s` after the rotation: the first sixteen lanes turn in pairs `(e, e + 8)`. -/
def spun (n : Fin 64 → EReal) (s : ℕ) (e : Fin 64) : EReal :=
  if h : e.val < 16 then
    if h' : e.val < 8 then n e * Ideal.cos (ang s e.val) - n ⟨e.val + 8, by omega⟩ * Ideal.sin (ang s e.val)
    else n e * Ideal.cos (ang s (e.val - 8)) + n ⟨e.val - 8, by omega⟩ * Ideal.sin (ang s (e.val - 8))
  else n e

/-- A head's lane over the root of the head's mean square, times its gain. -/
def scaled (q g : Fin 64 → EReal) (e : Fin 64) : EReal :=
  q e * Ideal.rsqrt (Ideal.div (∑ j : Fin 64, q j * q j) (Ideal.ofBits .f32 0x42800000#32) + Ideal.ofBits .f32 0x358637BD#32) * g e

/-- A lane rotated by full tables of cosines and signed sines is the lane rotated in pairs. -/
theorem spun_eq (n : Fin 64 → EReal) (s : ℕ) (e : Fin 64) (v a b ct sa sb : EReal) (hv : v = n e)
    (ha : ∀ h : e.val < 8, a = n ⟨e.val + 8, by omega⟩) (hb : ∀ h : 8 ≤ e.val, b = n ⟨e.val - 8, by omega⟩)
    (hct : ct = if e.val < 16 then Ideal.cos (ang s (e.val % 8)) else 1)
    (hsa : sa = if e.val < 8 then -Ideal.sin (ang s (e.val % 8)) else 0)
    (hsb : sb = if 8 ≤ e.val ∧ e.val < 16 then Ideal.sin (ang s (e.val % 8)) else 0) :
    v * ct + a * sa + b * sb = spun n s e := by
  unfold spun
  by_cases h : e.val < 16
  · by_cases h' : e.val < 8
    · rw [dif_pos h, dif_pos h', hct, hsa, hsb, if_pos h, if_pos h', if_neg (by omega), mul_zero, add_zero, hv, ha h',
        Nat.mod_eq_of_lt h', mul_neg, sub_eq_add_neg]
    · rw [dif_pos h, dif_neg h', hct, hsa, hsb, if_pos h, if_neg h', if_pos ⟨by omega, h⟩, mul_zero, add_zero, hv, hb (by omega),
        show e.val % 8 = e.val - 8 by omega]
  · rw [dif_neg h, hct, hsa, hsb, if_neg h, if_neg (by omega), if_neg (by omega), mul_zero, mul_zero, add_zero, add_zero, mul_one, hv]

/-- An extended real that is a real number. -/
def Real' (x : EReal) : Prop := ∃ r : ℝ, x = (r : EReal)

/-- A number that is not infinite is real. -/
theorem Real'.of_ne {x : EReal} (h : x ≠ ⊤) (h' : x ≠ ⊥) : Real' x := ⟨x.toReal, (EReal.coe_toReal h h').symm⟩

/-- Products of reals are real. -/
theorem Real'.mul {x y : EReal} : Real' x → Real' y → Real' (x * y) := fun ⟨a, ha⟩ ⟨b, hb⟩ => ⟨a * b, by rw [ha, hb, EReal.coe_mul]⟩

/-- A sum of reals, taken among the extended reals. -/
theorem coe_sum {n : ℕ} (r : Fin n → ℝ) : ((∑ i, r i : ℝ) : EReal) = ∑ i, (r i : EReal) := by
  classical
  induction (Finset.univ : Finset (Fin n)) using Finset.induction_on with
  | empty => simp
  | insert a s ha ih => rw [Finset.sum_insert ha, Finset.sum_insert ha, EReal.coe_add, ih]

/-- Sums of reals are real. -/
theorem Real'.sum {n : ℕ} (f : Fin n → EReal) (h : ∀ i, Real' (f i)) : Real' (∑ i, f i) := by
  choose r hr using h
  exact ⟨∑ i, r i, by rw [coe_sum]; exact Finset.sum_congr rfl fun i _ => hr i⟩

/-- A real number minus itself is zero. -/
theorem Real'.sub_self {x : EReal} : Real' x → x - x = 0 := fun ⟨a, ha⟩ => by rw [ha, ← EReal.coe_sub, _root_.sub_self, EReal.coe_zero]

/-- The constant under the roots is a positive real. -/
theorem eps_pos : ∃ r : ℝ, 0 < r ∧ Ideal.ofBits .f32 0x358637BD#32 = (r : EReal) := by
  refine ⟨_, ?_, by simp [Ideal.ofBits, Ideal.ieee, -EReal.coe_mul]; rfl⟩
  norm_num

/-- The constant 1024. -/
theorem bits_1024 : Ideal.ofBits .f32 0x44800000#32 = ((1024 : ℝ) : EReal) := by
  simp [Ideal.ofBits, Ideal.ieee, -EReal.coe_mul]; norm_num

/-- The constant 64. -/
theorem bits_64 : Ideal.ofBits .f32 0x42800000#32 = ((64 : ℝ) : EReal) := by
  simp [Ideal.ofBits, Ideal.ieee, -EReal.coe_mul]; norm_num

/-- The constant 1/64. -/
theorem bits_64th : Ideal.ofBits .f32 0x3C800000#32 = ((1 / 64 : ℝ) : EReal) := by
  simp [Ideal.ofBits, Ideal.ieee, -EReal.coe_mul]; norm_num

/-- Dividing by 64 is multiplying by a sixty-fourth. -/
theorem div_64 (x : EReal) : x * Ideal.ofBits .f32 0x3C800000#32 = Ideal.div x (Ideal.ofBits .f32 0x42800000#32) := by
  rw [bits_64th, bits_64, Ideal.div, if_neg (by norm_num), ← EReal.coe_inv]
  norm_num

/-- A square is not negative. -/
theorem sq_nonneg' (x : EReal) : 0 ≤ x * x := by
  induction x using EReal.rec with
  | bot => simp
  | top => simp
  | coe r => rw [← EReal.coe_mul]; exact EReal.coe_nonneg.mpr (mul_self_nonneg r)

/-- A normed row is finite whatever the row: one with an infinite entry has an infinite mean square, whose inverse root
    is zero. -/
theorem normed_real (x : Fin 1024 → EReal) (g : EReal) (hg : Real' g) (k : Fin 1024) :
    Real' (x k * Ideal.rsqrt (Ideal.div (∑ j : Fin 1024, x j * x j) (Ideal.ofBits .f32 0x44800000#32) + Ideal.ofBits .f32 0x358637BD#32) * g) := by
  obtain ⟨e, he, hee⟩ := eps_pos
  rw [hee, bits_1024, Ideal.div, if_neg (by norm_num), ← EReal.coe_inv]
  by_cases h : ∀ j, Real' (x j)
  · choose r hr using h
    have hs : (∑ j : Fin 1024, x j * x j) = ((∑ j, r j * r j : ℝ) : EReal) := by
      rw [coe_sum]
      exact Finset.sum_congr rfl fun j _ => by rw [hr j, EReal.coe_mul]
    have h0 : 0 ≤ ∑ j, r j * r j := Finset.sum_nonneg fun j _ => mul_self_nonneg _
    rw [hs, ← EReal.coe_mul, ← EReal.coe_add]
    have hp : 0 < (∑ j, r j * r j) * (1024 : ℝ)⁻¹ + e := by positivity
    refine Real'.mul (Real'.mul ⟨_, hr k⟩ ⟨(Real.sqrt ((∑ j, r j * r j) * (1024 : ℝ)⁻¹ + e))⁻¹, ?_⟩) hg
    show (if _ then _ else if _ then _ else _) = _
    rw [if_neg (not_lt.mpr hp.le), if_neg hp.ne']
  · have ht : (∑ j : Fin 1024, x j * x j) = ⊤ := by
      obtain ⟨j, hj⟩ := not_forall.mp h
      have hj' : x j * x j = ⊤ := by
        by_cases h1 : x j = ⊤
        · rw [h1]; rfl
        · by_cases h2 : x j = ⊥
          · rw [h2]; rfl
          · exact absurd (Real'.of_ne h1 h2) hj
      refine top_le_iff.mp (hj' ▸ Finset.single_le_sum (f := fun j => x j * x j) (fun i _ => sq_nonneg' _) (Finset.mem_univ j))
    rw [ht, EReal.top_mul_coe_of_pos (by norm_num), EReal.top_add_coe]
    exact ⟨0, by rw [show Ideal.rsqrt ⊤ = 0 from rfl, mul_zero, zero_mul]; rfl⟩

/-- Summing a block-diagonal matrix of ones against 512 entries leaves the 64 entries of one head. -/
theorem head_sum (f : Fin 512 → EReal) (o : Fin 512 → EReal) (h : Fin 8) (ho : ∀ e, o e = if e.val / 64 = h.val then 1 else 0) :
    ∑ e : Fin 512, f e * o e = ∑ j : Fin 64, f ⟨h.val * 64 + j.val, by omega⟩ := by
  rw [Fin.sum_univ_tiles 8 64 rfl (fun e : Fin 512 => f e * o e), Finset.sum_eq_single h]
  · refine Finset.sum_congr rfl fun j _ => ?_
    rw [ho, if_pos (by simp only []; omega), mul_one]
  · intro b _ hb
    refine Finset.sum_eq_zero fun j _ => ?_
    rw [ho, if_neg (by simp only []; intro hh; exact hb (Fin.ext (by omega))), mul_zero]
  · intro hh; exact absurd (Finset.mem_univ h) hh

end Cert.Rotation
end
-- ==== Proof.InProj.Tile.lean ====
module

public import proofs.«01_k».proof.Proof.InProj.Block
public import proofs.«01_k».proof.Proof.InProj.Rotation

@[expose] public section

set_option maxRecDepth 16384

noncomputable section

open Idealize.ShloMosaic Idealize.ShloMosaic.TcCoe Idealize.SL.Sem

namespace Cert.InProjIdeal.Block
open Cert.Rotation Cert.InProjIdeal Cert.InProjIdeal.Gen

/-- The reciprocal root mean square of the head that column `d` belongs to: the rounding error's part of the sum is zero when the entries are real numbers. -/
theorem inv_head (h : FVec Ideal S256x1024 .bf16) (o : FVec Ideal S512x512 .bf16) (w : FVec Ideal S1024x512 .bf16) (r : Fin 256) (d : Fin 512)
    (Y : Fin 512 → EReal) (hY : ∀ e, k0_pay13 (F := Ideal) h w (ix2 r e) = Y e) (hr : ∀ e, Real' (Y e))
    (ho : ∀ e : Fin 512, o (ix2 e d) = if e.val / 64 = d.val / 64 then (1 : EReal) else (0 : EReal)) :
    k0_pay15 (F := Ideal) h o w (ix2 r d) = Ideal.rsqrt (Ideal.div (∑ j : Fin 64, Y ⟨d.val / 64 * 64 + j.val, by omega⟩ * Y ⟨d.val / 64 * 64 + j.val, by omega⟩) (Ideal.ofBits .f32 0x42800000#32)
      + Ideal.ofBits .f32 0x358637BD#32) := by
  rw [inv_tile]
  simp only [hY]
  have z : ∑ e : Fin 512, (Y e * Y e - Y e * Y e) * o (ix2 e d) = 0 :=
    Finset.sum_eq_zero fun e _ => by rw [((hr e).mul (hr e)).sub_self, zero_mul]
  rw [z, add_zero, head_sum (fun e => Y e * Y e) (fun e => o (ix2 e d)) ⟨d.val / 64, by omega⟩ ho, div_64]

/-- One lane of a normed tile is the scaled entry of its head. -/
theorem lanes_scaled (y inv : FVec Ideal S256x512 .f32) (g : FVec Ideal S1x128 .f32) (T : ℕ) (hT : T < 4) (r : Fin 256) (j : ℕ) (hj : j < 128)
    (Y : Fin 512 → EReal) (G : Fin 64 → EReal) (H : Fin 8) (e : Fin 64) (he : T * 128 + j = H.val * 64 + e.val) (hm : j % 64 = e.val)
    (hY : ∀ e, y (ix2 r e) = Y e) (hg : ∀ l : Fin 128, g (ix2 0 l) = G ⟨l.val % 64, Nat.mod_lt _ (by decide)⟩)
    (hinv : ∀ d : Fin 512, inv (ix2 r d) = Ideal.rsqrt (Ideal.div (∑ j : Fin 64, Y ⟨d.val / 64 * 64 + j.val, by omega⟩ * Y ⟨d.val / 64 * 64 + j.val, by omega⟩) (Ideal.ofBits .f32 0x42800000#32)
      + Ideal.ofBits .f32 0x358637BD#32)) :
    lanes y inv g T hT r j hj = scaled (fun e => Y ⟨H.val * 64 + e.val, by omega⟩) G e := by
  have q' : (H.val * 64 + e.val) / 64 = H.val := by omega
  unfold lanes scaled
  rw [hY, hinv, hg]
  simp only [q', he, hm]

/-- A tile after the rotation, entry by entry. -/
theorem turned_spun (ct sa sb : FVec Ideal S256x128 .f32) (y inv : FVec Ideal S256x512 .f32) (g : FVec Ideal S1x128 .f32) (T : ℕ) (hT : T < 4) (r : Fin 256) (l : Fin 128)
    (Y : Fin 512 → EReal) (G : Fin 64 → EReal) (s : ℕ) (H : Fin 8) (e : Fin 64) (he : T * 128 + l.val = H.val * 64 + e.val)
    (hY : ∀ e, y (ix2 r e) = Y e) (hg : ∀ l : Fin 128, g (ix2 0 l) = G ⟨l.val % 64, Nat.mod_lt _ (by decide)⟩)
    (hinv : ∀ d : Fin 512, inv (ix2 r d) = Ideal.rsqrt (Ideal.div (∑ j : Fin 64, Y ⟨d.val / 64 * 64 + j.val, by omega⟩ * Y ⟨d.val / 64 * 64 + j.val, by omega⟩) (Ideal.ofBits .f32 0x42800000#32)
      + Ideal.ofBits .f32 0x358637BD#32))
    (hct : ∀ l : Fin 128, ct (ix2 r l) = if l.val % 64 < 16 then Ideal.cos (ang s (l.val % 8)) else (1 : EReal))
    (hsa : ∀ l : Fin 128, sa (ix2 r l) = if l.val % 64 < 8 then -Ideal.sin (ang s (l.val % 8)) else (0 : EReal))
    (hsb : ∀ l : Fin 128, sb (ix2 r l) = if 8 ≤ l.val % 64 ∧ l.val % 64 < 16 then Ideal.sin (ang s (l.val % 8)) else (0 : EReal)) :
    turned ct sa sb y g inv T hT r l = spun (scaled (fun e => Y ⟨H.val * 64 + e.val, by omega⟩) G) s e := by
  have m1 : l.val % 64 = e.val := by omega
  have m2 : l.val % 8 = e.val % 8 := by omega
  unfold turned
  refine spun_eq _ s e _ _ _ _ _ _ ?_ ?_ ?_ ?_ ?_ ?_
  · exact lanes_scaled y inv g T hT r _ _ Y G H e he m1 hY hg hinv
  · intro h8
    exact lanes_scaled y inv g T hT r _ _ Y G H ⟨e.val + 8, by omega⟩ (by simp only []; omega) (by simp only []; omega) hY hg hinv
  · intro h8
    exact lanes_scaled y inv g T hT r _ _ Y G H ⟨e.val - 8, by omega⟩ (by simp only []; omega) (by simp only []; omega) hY hg hinv
  · rw [hct, m1, m2]
  · rw [hsa, m1, m2]
  · rw [hsb, m1, m2]

/-- One entry of the normed and rotated columns of a block of rows. -/
theorem rotated (ct sa sb : FVec Ideal S256x128 .f32) (h : FVec Ideal S256x1024 .bf16) (g : FVec Ideal S1x128 .f32) (o : FVec Ideal S512x512 .bf16) (w : FVec Ideal S1024x512 .bf16) (r : Fin 256) (d : Fin 512)
    (Y : Fin 512 → EReal) (G : Fin 64 → EReal) (s : ℕ)
    (hY : ∀ e, k0_pay13 (F := Ideal) h w (ix2 r e) = Y e) (hr : ∀ e, Real' (Y e))
    (ho : ∀ e d : Fin 512, o (ix2 e d) = if e.val / 64 = d.val / 64 then (1 : EReal) else (0 : EReal))
    (hg : ∀ l : Fin 128, g (ix2 0 l) = G ⟨l.val % 64, Nat.mod_lt _ (by decide)⟩)
    (hct : ∀ l : Fin 128, ct (ix2 r l) = if l.val % 64 < 16 then Ideal.cos (ang s (l.val % 8)) else (1 : EReal))
    (hsa : ∀ l : Fin 128, sa (ix2 r l) = if l.val % 64 < 8 then -Ideal.sin (ang s (l.val % 8)) else (0 : EReal))
    (hsb : ∀ l : Fin 128, sb (ix2 r l) = if 8 ≤ l.val % 64 ∧ l.val % 64 < 16 then Ideal.sin (ang s (l.val % 8)) else (0 : EReal)) :
    k0_pay17 (F := Ideal) (k0_pay10 ct) (k0_pay11 sa) (k0_pay12 sb) (k0_pay13 h w) (k0_pay14 g) (k0_pay15 h o w) (k0_pay16 h w) (ix2 r d)
      = spun (scaled (fun e => Y ⟨d.val / 64 * 64 + e.val, by omega⟩) G) s ⟨d.val % 64, Nat.mod_lt _ (by decide)⟩ := by
  have i10 : k0_pay10 (F := Ideal) ct = ct := by funext x; pointwise [k0_pay10]
  have i11 : k0_pay11 (F := Ideal) sa = sa := by funext x; pointwise [k0_pay11]
  have i12 : k0_pay12 (F := Ideal) sb = sb := by funext x; pointwise [k0_pay12]
  have i14 : k0_pay14 (F := Ideal) g = g := by funext x; pointwise [k0_pay14]
  rw [i10, i11, i12, i14]
  have hinv := fun d => inv_head h o w r d Y hY hr (fun e => ho e d)
  obtain ⟨T, l, hd⟩ : ∃ (T : Fin 4) (l : Fin 128), d.val = T.val * 128 + l.val := ⟨⟨d.val / 128, by omega⟩, ⟨d.val % 128, by omega⟩, by simp only []; omega⟩
  have q := fun (hT : T.val < 4) => turned_spun ct sa sb (k0_pay13 h w) (k0_pay15 h o w) g T.val hT r l Y G s ⟨d.val / 64, by omega⟩ ⟨d.val % 64, Nat.mod_lt _ (by decide)⟩
    (by simp only []; omega) hY hg hinv hct hsa hsb
  refine Eq.trans ?_ (q T.isLt)
  fin_cases T
  · rw [show d = ⟨0 * 128 + l.val, by omega⟩ from Fin.ext hd]
    exact rope_tile0 ct sa sb _ g _ _ (queries0 h w) r l
  · rw [show d = ⟨1 * 128 + l.val, by omega⟩ from Fin.ext hd]
    exact rope_tile1 ct sa sb _ g _ _ (queries0 h w) r l
  · rw [show d = ⟨2 * 128 + l.val, by omega⟩ from Fin.ext hd]
    exact rope_tile2 ct sa sb _ g _ _ (queries0 h w) r l
  · rw [show d = ⟨3 * 128 + l.val, by omega⟩ from Fin.ext hd]
    exact rope_tile3 ct sa sb _ g _ _ (queries0 h w) r l

end Cert.InProjIdeal.Block
end
-- ==== Proof.InProj.Host.lean ====
module

public import proofs.«01_k».proof.Proof.Gen.InProjIdeal.Frame
public import Idealize.ShloMosaic.Lib.StableHlo.RunRead
public import Idealize.ShloMosaic.Lib.Pointwise
public import proofs.«01_k».proof.Proof.InProj.Rotation

@[expose] public section

set_option maxRecDepth 100000

noncomputable section

open Idealize.ShloMosaic Idealize.ShloMosaic.TcCoe Idealize.SL.Sem

namespace Cert.InProjIdeal.Prep
open Cert.Rotation Cert.InProjIdeal Cert.InProjIdeal.Gen

/-- A list of host operations. -/
abbrev Ops := List (HloOp τ sig (Elt Ideal))
/-- The contents of the buffers. -/
abbrev Bufs := Valuation τ sig (Elt Ideal)

/-- The first stretch of the host operations: input, matrix, lanes and frequencies. -/
def opsA : Ops := hostOps0 ++ (hostOps0_1 ++ (hostOps0_2 ++ hostOps0_3))
/-- The second stretch: the three tables of the rotation. -/
def opsB : Ops := hostOps0_4 ++ (hostOps0_5 ++ (hostOps0_6 ++ (hostOps0_7 ++ (hostOps0_8 ++ (hostOps0_9 ++ (hostOps0_10 ++ hostOps0_11))))))
/-- The third stretch: the indicator of equal heads. -/
def opsC : Ops := hostOps0_12 ++ hostOps0_13
/-- The last stretch: the gains. -/
def opsD : Ops := hostOps0_14

/-- The host operations, taken stretch by stretch. -/
theorem split (σ : Bufs) : StableHlo.after (List.flatten [hostOps0, hostOps0_1, hostOps0_2, hostOps0_3, hostOps0_4, hostOps0_5, hostOps0_6, hostOps0_7, hostOps0_8,
          hostOps0_9, hostOps0_10, hostOps0_11, hostOps0_12, hostOps0_13, hostOps0_14]) σ
    = StableHlo.after opsD (StableHlo.after opsC (StableHlo.after opsB (StableHlo.after opsA σ))) := by
  rw [← StableHlo.after_append, ← StableHlo.after_append, ← StableHlo.after_append]
  rfl

variable (σ : Bufs)

set_option maxHeartbeats 2000000 in
/-- The lane within its head. -/
theorem lane (l : Fin 128) : (StableHlo.after opsA σ (Proc.devRef .tc main_v3) : IVec S128 32) (ix1 l) = BitVec.ofNat 32 (l.val % 64) := by
  simp only [opsA, hostOps0, hostOps0_1, hostOps0_2, hostOps0_3, List.cons_append, List.nil_append]
  after_results_simp
  revert l
  decide +kernel

set_option maxHeartbeats 2000000 in
/-- Whether the lane takes part in the rotation. -/
theorem rot (l : Fin 128) : (StableHlo.after opsA σ (Proc.devRef .tc main_v5) : IVec S128 1) (ix1 l) = if l.val % 64 < 16 then 1#1 else 0#1 := by
  simp only [opsA, hostOps0, hostOps0_1, hostOps0_2, hostOps0_3, List.cons_append, List.nil_append]
  after_results_simp
  revert l
  change ∀ l : Fin 128, @Eq (BitVec 1) _ _
  decide +kernel

set_option maxHeartbeats 2000000 in
/-- The frequency of the lane. -/
theorem freq (l : Fin 128) : (StableHlo.after opsA σ (Proc.devRef .tc main_v6) : IVec S128 32) (ix1 l) = BitVec.ofNat 32 (l.val % 8) := by
  simp only [opsA, hostOps0, hostOps0_1, hostOps0_2, hostOps0_3, List.cons_append, List.nil_append]
  after_results_simp
  revert l
  decide +kernel

/-- The comparison that selects the lower half of the rotated lanes. -/
theorem lt8 (l : Fin 128) : IntOp.cmpi CmpIPredicate.slt (BitVec.ofNat 32 (l.val % 64)) 8#32 = if l.val % 64 < 8 then 1#1 else 0#1 := by
  revert l; decide +kernel

/-- The comparison that selects the upper half of the rotated lanes. -/
theorem ge8 (l : Fin 128) : IntOp.cmpi CmpIPredicate.sge (BitVec.ofNat 32 (l.val % 64)) 8#32 = if l.val % 64 < 8 then 0#1 else 1#1 := by
  revert l; decide +kernel

/-- The comparison of two heads. -/
theorem eqw (e d : Fin 512) : IntOp.cmpi CmpIPredicate.eq (BitVec.ofNat 32 (e.val / 64)) (BitVec.ofNat 32 (d.val / 64)) = if e.val / 64 = d.val / 64 then 1#1 else 0#1 := by
  have h : ∀ a b : Fin 8, IntOp.cmpi CmpIPredicate.eq (BitVec.ofNat 32 a.val) (BitVec.ofNat 32 b.val) = if a.val = b.val then 1#1 else 0#1 := by decide +kernel
  exact h ⟨e.val / 64, by omega⟩ ⟨d.val / 64, by omega⟩

set_option maxHeartbeats 2000000 in
/-- The table of cosines. -/
theorem ct (h5 : ∀ l : Fin 128, (σ (Proc.devRef .tc main_v5) : IVec S128 1) (ix1 l) = if l.val % 64 < 16 then 1#1 else 0#1) (h6 : ∀ l : Fin 128, (σ (Proc.devRef .tc main_v6) : IVec S128 32) (ix1 l) = BitVec.ofNat 32 (l.val % 8)) (r : Fin 8192) (l : Fin 128) : (StableHlo.after opsB σ (Proc.devRef .tc main_v24) : FVec Ideal S8192x128 .f32) (ix2 r l) = if l.val % 64 < 16 then Ideal.cos (ang r.val (l.val % 8)) else (1 : EReal) := by
  simp only [opsB, hostOps0_4, hostOps0_5, hostOps0_6, hostOps0_7, hostOps0_8, hostOps0_9, hostOps0_10, hostOps0_11, List.cons_append, List.nil_append]
  after_results_simp
  simp only [StableHlo.TRef.ofBuf_toBuf]
  simp only [StableHlo.TRef.ofBuf, StableHlo.TRef.toBuf, cast_eq, id]
  pointwise
  rw [h5 l, h6 l]
  split <;> simp [Scalar.select, ang]

set_option maxHeartbeats 2000000 in
/-- The table of negated sines, on the lower half. -/
theorem sa (h3 : ∀ l : Fin 128, (σ (Proc.devRef .tc main_v3) : IVec S128 32) (ix1 l) = BitVec.ofNat 32 (l.val % 64)) (h5 : ∀ l : Fin 128, (σ (Proc.devRef .tc main_v5) : IVec S128 1) (ix1 l) = if l.val % 64 < 16 then 1#1 else 0#1) (h6 : ∀ l : Fin 128, (σ (Proc.devRef .tc main_v6) : IVec S128 32) (ix1 l) = BitVec.ofNat 32 (l.val % 8)) (r : Fin 8192) (l : Fin 128) : (StableHlo.after opsB σ (Proc.devRef .tc main_v28) : FVec Ideal S8192x128 .f32) (ix2 r l) = if l.val % 64 < 8 then -Ideal.sin (ang r.val (l.val % 8)) else (0 : EReal) := by
  simp only [opsB, hostOps0_4, hostOps0_5, hostOps0_6, hostOps0_7, hostOps0_8, hostOps0_9, hostOps0_10, hostOps0_11, List.cons_append, List.nil_append]
  after_results_simp
  simp only [StableHlo.TRef.ofBuf_toBuf]
  simp only [StableHlo.TRef.ofBuf, StableHlo.TRef.toBuf, cast_eq, id]
  pointwise
  rw [h3 l, h5 l, h6 l, lt8 l]
  by_cases h : l.val % 64 < 8
  · rw [if_pos h, if_pos h, if_pos (by omega)]
    simp [Scalar.select, ang]
  · rw [if_neg h, if_neg h]
    simp [Scalar.select]

set_option maxHeartbeats 2000000 in
/-- The table of sines, on the upper half. -/
theorem sb (h3 : ∀ l : Fin 128, (σ (Proc.devRef .tc main_v3) : IVec S128 32) (ix1 l) = BitVec.ofNat 32 (l.val % 64)) (h5 : ∀ l : Fin 128, (σ (Proc.devRef .tc main_v5) : IVec S128 1) (ix1 l) = if l.val % 64 < 16 then 1#1 else 0#1) (h6 : ∀ l : Fin 128, (σ (Proc.devRef .tc main_v6) : IVec S128 32) (ix1 l) = BitVec.ofNat 32 (l.val % 8)) (r : Fin 8192) (l : Fin 128) : (StableHlo.after opsB σ (Proc.devRef .tc main_v32) : FVec Ideal S8192x128 .f32) (ix2 r l) = if 8 ≤ l.val % 64 ∧ l.val % 64 < 16 then Ideal.sin (ang r.val (l.val % 8)) else (0 : EReal) := by
  simp only [opsB, hostOps0_4, hostOps0_5, hostOps0_6, hostOps0_7, hostOps0_8, hostOps0_9, hostOps0_10, hostOps0_11, List.cons_append, List.nil_append]
  after_results_simp
  simp only [StableHlo.TRef.ofBuf_toBuf]
  simp only [StableHlo.TRef.ofBuf, StableHlo.TRef.toBuf, cast_eq, id]
  pointwise
  rw [h3 l, h5 l, h6 l, ge8 l]
  by_cases h : l.val % 64 < 16
  · by_cases h' : l.val % 64 < 8
    · have g : ¬ (8 ≤ l.val % 64 ∧ l.val % 64 < 16) := by omega
      simp only [if_pos h, if_pos h', if_neg g]
      simp [Scalar.select, IntOp.andi]
    · have g : 8 ≤ l.val % 64 ∧ l.val % 64 < 16 := by omega
      simp only [if_pos h, if_neg h', if_pos g]
      simp [Scalar.select, IntOp.andi, ang]
  · have g : ¬ (8 ≤ l.val % 64 ∧ l.val % 64 < 16) := by omega
    simp only [if_neg h, if_neg g]
    simp [Scalar.select, IntOp.andi]

set_option maxHeartbeats 2000000 in
/-- The head of a column. -/
theorem quot (e : Fin 512) : (StableHlo.after opsC σ (Proc.devRef .tc main_v34) : IVec S512 32) (ix1 e) = BitVec.ofNat 32 (e.val / 64) := by
  simp only [opsC, hostOps0_12, hostOps0_13, List.cons_append, List.nil_append]
  after_results_simp
  revert e
  decide +kernel

set_option maxHeartbeats 2000000 in
/-- The indicator of equal heads. -/
theorem ones (h : ∀ e : Fin 512, (σ (Proc.devRef .tc main_v34) : IVec S512 32) (ix1 e) = BitVec.ofNat 32 (e.val / 64)) (e d : Fin 512) : (StableHlo.after opsD σ (Proc.devRef .tc main_v40) : FVec Ideal S512x512 .bf16) (ix2 e d) = if e.val / 64 = d.val / 64 then (1 : EReal) else (0 : EReal) := by
  simp only [opsD, hostOps0_14]
  after_results_simp
  pointwise
  rw [h e, h d, eqw e d]
  split <;> simp [FloatOps.uitofp]

set_option maxHeartbeats 2000000 in
/-- The input norm's gain as a row. -/
theorem gain (k : Fin 1024) : (StableHlo.after opsD σ (Proc.devRef .tc main_v41) : FVec Ideal S1x1024 .f32) (ix2 0 k) = (σ (Proc.devRef .tc main_arg1) : FVec Ideal S1024 .f32) (ix1 k) := by
  simp only [opsD, hostOps0_14]
  after_results_simp
  pointwise

set_option maxHeartbeats 2000000 in
/-- The queries' gain, repeated over two heads. -/
theorem gq  (l : Fin 128) : (StableHlo.after opsD σ (Proc.devRef .tc main_v43) : FVec Ideal S1x128 .f32) (ix2 0 l) = (σ (Proc.devRef .tc main_arg3) : FVec Ideal S64 .f32) (ix1 ⟨l.val % 64, Nat.mod_lt _ (by decide)⟩) := by
  simp only [opsD, hostOps0_14]
  after_results
  pointwise
  split
  · congr 2; exact Fin.ext (by simp; omega)
  · congr 2; exact Fin.ext (by simp; omega)

set_option maxHeartbeats 2000000 in
/-- The keys' gain, repeated over two heads. -/
theorem gk  (l : Fin 128) : (StableHlo.after opsD σ (Proc.devRef .tc main_v45) : FVec Ideal S1x128 .f32) (ix2 0 l) = (σ (Proc.devRef .tc main_arg4) : FVec Ideal S64 .f32) (ix1 ⟨l.val % 64, Nat.mod_lt _ (by decide)⟩) := by
  simp only [opsD, hostOps0_14]
  after_results
  pointwise
  split
  · congr 2; exact Fin.ext (by simp; omega)
  · congr 2; exact Fin.ext (by simp; omega)

set_option maxHeartbeats 2000000 in
/-- The input as rows: batch and position in one index. -/
theorem rows (r : Fin 32768) (k : Fin 1024) : (StableHlo.after opsA σ (Proc.devRef .tc main_v0) : FVec Ideal S32768x1024 .f32) (ix2 r k) = (σ (Proc.devRef .tc main_arg0) : FVec Ideal S4x8192x1024 .f32) (ix3 ⟨r.val / 8192, by omega⟩ ⟨r.val % 8192, Nat.mod_lt _ (by decide)⟩ k) := by
  simp only [opsA, hostOps0, hostOps0_1, hostOps0_2, hostOps0_3, List.cons_append, List.nil_append]
  after_results_simp
  pointwise

set_option maxHeartbeats 2000000 in
/-- The matrix. -/
theorem mat (k : Fin 1024) (d : Fin 4096) : (StableHlo.after opsA σ (Proc.devRef .tc main_v1) : FVec Ideal S1024x4096 .bf16) (ix2 k d) = (σ (Proc.devRef .tc main_arg2) : FVec Ideal S1024x4096 .f32) (ix2 k d) := by
  simp only [opsA, hostOps0, hostOps0_1, hostOps0_2, hostOps0_3, List.cons_append, List.nil_append]
  after_results_simp
  pointwise

set_option maxHeartbeats 2000000 in
/-- Untouched by this stretch. -/
theorem keepA_arg1 : StableHlo.after opsA σ (Proc.devRef .tc main_arg1) = σ (Proc.devRef .tc main_arg1) := by
  simp only [opsA, hostOps0, hostOps0_1, hostOps0_2, hostOps0_3, List.cons_append, List.nil_append]
  after_results_simp

set_option maxHeartbeats 2000000 in
/-- Untouched by this stretch. -/
theorem keepA_arg3 : StableHlo.after opsA σ (Proc.devRef .tc main_arg3) = σ (Proc.devRef .tc main_arg3) := by
  simp only [opsA, hostOps0, hostOps0_1, hostOps0_2, hostOps0_3, List.cons_append, List.nil_append]
  after_results_simp

set_option maxHeartbeats 2000000 in
/-- Untouched by this stretch. -/
theorem keepA_arg4 : StableHlo.after opsA σ (Proc.devRef .tc main_arg4) = σ (Proc.devRef .tc main_arg4) := by
  simp only [opsA, hostOps0, hostOps0_1, hostOps0_2, hostOps0_3, List.cons_append, List.nil_append]
  after_results_simp

set_option maxHeartbeats 2000000 in
/-- Untouched by this stretch. -/
theorem keepB_arg1 : StableHlo.after opsB σ (Proc.devRef .tc main_arg1) = σ (Proc.devRef .tc main_arg1) := by
  simp only [opsB, hostOps0_4, hostOps0_5, hostOps0_6, hostOps0_7, hostOps0_8, hostOps0_9, hostOps0_10, hostOps0_11, List.cons_append, List.nil_append]
  after_results_simp

set_option maxHeartbeats 2000000 in
/-- Untouched by this stretch. -/
theorem keepB_arg3 : StableHlo.after opsB σ (Proc.devRef .tc main_arg3) = σ (Proc.devRef .tc main_arg3) := by
  simp only [opsB, hostOps0_4, hostOps0_5, hostOps0_6, hostOps0_7, hostOps0_8, hostOps0_9, hostOps0_10, hostOps0_11, List.cons_append, List.nil_append]
  after_results_simp

set_option maxHeartbeats 2000000 in
/-- Untouched by this stretch. -/
theorem keepB_arg4 : StableHlo.after opsB σ (Proc.devRef .tc main_arg4) = σ (Proc.devRef .tc main_arg4) := by
  simp only [opsB, hostOps0_4, hostOps0_5, hostOps0_6, hostOps0_7, hostOps0_8, hostOps0_9, hostOps0_10, hostOps0_11, List.cons_append, List.nil_append]
  after_results_simp

set_option maxHeartbeats 2000000 in
/-- Untouched by this stretch. -/
theorem keepB_v0 : StableHlo.after opsB σ (Proc.devRef .tc main_v0) = σ (Proc.devRef .tc main_v0) := by
  simp only [opsB, hostOps0_4, hostOps0_5, hostOps0_6, hostOps0_7, hostOps0_8, hostOps0_9, hostOps0_10, hostOps0_11, List.cons_append, List.nil_append]
  after_results_simp

set_option maxHeartbeats 2000000 in
/-- Untouched by this stretch. -/
theorem keepB_v1 : StableHlo.after opsB σ (Proc.devRef .tc main_v1) = σ (Proc.devRef .tc main_v1) := by
  simp only [opsB, hostOps0_4, hostOps0_5, hostOps0_6, hostOps0_7, hostOps0_8, hostOps0_9, hostOps0_10, hostOps0_11, List.cons_append, List.nil_append]
  after_results_simp

set_option maxHeartbeats 2000000 in
/-- Untouched by this stretch. -/
theorem keepC_arg1 : StableHlo.after opsC σ (Proc.devRef .tc main_arg1) = σ (Proc.devRef .tc main_arg1) := by
  simp only [opsC, hostOps0_12, hostOps0_13, List.cons_append, List.nil_append]
  after_results_simp

set_option maxHeartbeats 2000000 in
/-- Untouched by this stretch. -/
theorem keepC_arg3 : StableHlo.after opsC σ (Proc.devRef .tc main_arg3) = σ (Proc.devRef .tc main_arg3) := by
  simp only [opsC, hostOps0_12, hostOps0_13, List.cons_append, List.nil_append]
  after_results_simp

set_option maxHeartbeats 2000000 in
/-- Untouched by this stretch. -/
theorem keepC_arg4 : StableHlo.after opsC σ (Proc.devRef .tc main_arg4) = σ (Proc.devRef .tc main_arg4) := by
  simp only [opsC, hostOps0_12, hostOps0_13, List.cons_append, List.nil_append]
  after_results_simp

set_option maxHeartbeats 2000000 in
/-- Untouched by this stretch. -/
theorem keepC_v0 : StableHlo.after opsC σ (Proc.devRef .tc main_v0) = σ (Proc.devRef .tc main_v0) := by
  simp only [opsC, hostOps0_12, hostOps0_13, List.cons_append, List.nil_append]
  after_results_simp

set_option maxHeartbeats 2000000 in
/-- Untouched by this stretch. -/
theorem keepC_v1 : StableHlo.after opsC σ (Proc.devRef .tc main_v1) = σ (Proc.devRef .tc main_v1) := by
  simp only [opsC, hostOps0_12, hostOps0_13, List.cons_append, List.nil_append]
  after_results_simp

set_option maxHeartbeats 2000000 in
/-- Untouched by this stretch. -/
theorem keepC_v24 : StableHlo.after opsC σ (Proc.devRef .tc main_v24) = σ (Proc.devRef .tc main_v24) := by
  simp only [opsC, hostOps0_12, hostOps0_13, List.cons_append, List.nil_append]
  after_results_simp

set_option maxHeartbeats 2000000 in
/-- Untouched by this stretch. -/
theorem keepC_v28 : StableHlo.after opsC σ (Proc.devRef .tc main_v28) = σ (Proc.devRef .tc main_v28) := by
  simp only [opsC, hostOps0_12, hostOps0_13, List.cons_append, List.nil_append]
  after_results_simp

set_option maxHeartbeats 2000000 in
/-- Untouched by this stretch. -/
theorem keepC_v32 : StableHlo.after opsC σ (Proc.devRef .tc main_v32) = σ (Proc.devRef .tc main_v32) := by
  simp only [opsC, hostOps0_12, hostOps0_13, List.cons_append, List.nil_append]
  after_results_simp

set_option maxHeartbeats 2000000 in
/-- Untouched by this stretch. -/
theorem keepD_v0 : StableHlo.after opsD σ (Proc.devRef .tc main_v0) = σ (Proc.devRef .tc main_v0) := by
  simp only [opsD, hostOps0_14]
  after_results_simp

set_option maxHeartbeats 2000000 in
/-- Untouched by this stretch. -/
theorem keepD_v1 : StableHlo.after opsD σ (Proc.devRef .tc main_v1) = σ (Proc.devRef .tc main_v1) := by
  simp only [opsD, hostOps0_14]
  after_results_simp

set_option maxHeartbeats 2000000 in
/-- Untouched by this stretch. -/
theorem keepD_v24 : StableHlo.after opsD σ (Proc.devRef .tc main_v24) = σ (Proc.devRef .tc main_v24) := by
  simp only [opsD, hostOps0_14]
  after_results_simp

set_option maxHeartbeats 2000000 in
/-- Untouched by this stretch. -/
theorem keepD_v28 : StableHlo.after opsD σ (Proc.devRef .tc main_v28) = σ (Proc.devRef .tc main_v28) := by
  simp only [opsD, hostOps0_14]
  after_results_simp

set_option maxHeartbeats 2000000 in
/-- Untouched by this stretch. -/
theorem keepD_v32 : StableHlo.after opsD σ (Proc.devRef .tc main_v32) = σ (Proc.devRef .tc main_v32) := by
  simp only [opsD, hostOps0_14]
  after_results_simp

/-- The host line before the launch. -/
abbrev line : Ops := List.flatten [hostOps0, hostOps0_1, hostOps0_2, hostOps0_3, hostOps0_4, hostOps0_5, hostOps0_6, hostOps0_7, hostOps0_8,
          hostOps0_9, hostOps0_10, hostOps0_11, hostOps0_12, hostOps0_13, hostOps0_14]

/-- The table of cosines the call receives. -/
theorem line_ct (r : Fin 8192) (l : Fin 128) : (StableHlo.after line σ (Proc.devRef .tc main_v24) : FVec Ideal S8192x128 .f32) (ix2 r l)
    = if l.val % 64 < 16 then Ideal.cos (ang r.val (l.val % 8)) else (1 : EReal) := by
  rw [split, keepD_v24, keepC_v24, ct _ (rot σ) (freq σ)]

/-- The table of negated sines the call receives. -/
theorem line_sa (r : Fin 8192) (l : Fin 128) : (StableHlo.after line σ (Proc.devRef .tc main_v28) : FVec Ideal S8192x128 .f32) (ix2 r l)
    = if l.val % 64 < 8 then -Ideal.sin (ang r.val (l.val % 8)) else (0 : EReal) := by
  rw [split, keepD_v28, keepC_v28, sa _ (lane σ) (rot σ) (freq σ)]

/-- The table of sines the call receives. -/
theorem line_sb (r : Fin 8192) (l : Fin 128) : (StableHlo.after line σ (Proc.devRef .tc main_v32) : FVec Ideal S8192x128 .f32) (ix2 r l)
    = if 8 ≤ l.val % 64 ∧ l.val % 64 < 16 then Ideal.sin (ang r.val (l.val % 8)) else (0 : EReal) := by
  rw [split, keepD_v32, keepC_v32, sb _ (lane σ) (rot σ) (freq σ)]

/-- The indicator the call receives. -/
theorem line_ones (e d : Fin 512) : (StableHlo.after line σ (Proc.devRef .tc main_v40) : FVec Ideal S512x512 .bf16) (ix2 e d)
    = if e.val / 64 = d.val / 64 then (1 : EReal) else (0 : EReal) := by
  rw [split, ones _ (quot _)]

/-- The input norm's gain the call receives. -/
theorem line_gain (k : Fin 1024) : (StableHlo.after line σ (Proc.devRef .tc main_v41) : FVec Ideal S1x1024 .f32) (ix2 0 k)
    = (σ (Proc.devRef .tc main_arg1) : FVec Ideal S1024 .f32) (ix1 k) := by
  rw [split, gain, keepC_arg1, keepB_arg1, keepA_arg1]

/-- The queries' gain the call receives. -/
theorem line_gq (l : Fin 128) : (StableHlo.after line σ (Proc.devRef .tc main_v43) : FVec Ideal S1x128 .f32) (ix2 0 l)
    = (σ (Proc.devRef .tc main_arg3) : FVec Ideal S64 .f32) (ix1 ⟨l.val % 64, Nat.mod_lt _ (by decide)⟩) := by
  rw [split, gq, keepC_arg3, keepB_arg3, keepA_arg3]

/-- The keys' gain the call receives. -/
theorem line_gk (l : Fin 128) : (StableHlo.after line σ (Proc.devRef .tc main_v45) : FVec Ideal S1x128 .f32) (ix2 0 l)
    = (σ (Proc.devRef .tc main_arg4) : FVec Ideal S64 .f32) (ix1 ⟨l.val % 64, Nat.mod_lt _ (by decide)⟩) := by
  rw [split, gk, keepC_arg4, keepB_arg4, keepA_arg4]

/-- The rows the call receives. -/
theorem line_rows (r : Fin 32768) (k : Fin 1024) : (StableHlo.after line σ (Proc.devRef .tc main_v0) : FVec Ideal S32768x1024 .f32) (ix2 r k)
    = (σ (Proc.devRef .tc main_arg0) : FVec Ideal S4x8192x1024 .f32) (ix3 ⟨r.val / 8192, by omega⟩ ⟨r.val % 8192, Nat.mod_lt _ (by decide)⟩ k) := by
  rw [split, keepD_v0, keepC_v0, keepB_v0, rows]

/-- The matrix the call receives. -/
theorem line_mat (k : Fin 1024) (d : Fin 4096) : (StableHlo.after line σ (Proc.devRef .tc main_v1) : FVec Ideal S1024x4096 .bf16) (ix2 k d)
    = (σ (Proc.devRef .tc main_arg2) : FVec Ideal S1024x4096 .f32) (ix2 k d) := by
  rw [split, keepD_v1, keepC_v1, keepB_v1, mat]

end Cert.InProjIdeal.Prep
end
-- ==== Proof.InProj.Reads.lean ====
module

public import proofs.«01_k».proof.Proof.Gen.InProjIdeal.Frame
public import Idealize.ShloMosaic.Lib.Pipeline.ValueKit
public import Idealize.ShloMosaic.Lib.Pointwise
public import Idealize.ShloMosaic.Lib.Claim
public import proofs.«01_k».proof.Proof.InProj.Host

@[expose] public section

set_option maxRecDepth 16384

noncomputable section

open Idealize.ShloMosaic Idealize.ShloMosaic.TcCoe Idealize.SL.Sem
open Idealize.ShloMosaic.Pipeline (Dat)

namespace Cert.InProjIdeal.Tokens
open Cert.Rotation Cert.InProjIdeal Cert.InProjIdeal.Gen
variable (m : (ℓ : Loc nD τ sig) → Buf (Elt Ideal) ℓ)

/-- Which block each window shows at each grid point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0]
    ∧ win0_6.index t = ![t.val % 32, 0] ∧ win0_7.index t = ![t.val % 32, 0] ∧ win0_8.index t = ![t.val % 32, 0] ∧ win0_9.index t = ![t.val, 0]
    ∧ win0_10.index t = ![t.val / 32, t.val % 32, 0] ∧ win0_11.index t = ![t.val / 32, t.val % 32, 0] ∧ win0_12.index t = ![t.val / 32, 0, t.val % 32] ∧ win0_13.index t = ![t.val / 32, t.val % 32, 0, 0] :=
  (by decide +kernel : ∀ t : Fin grid0.N, _)

/-- The memory of core `c` as the host line finds it. -/
abbrev at0 (c : Dev nD) : Prep.Bufs := fun b => m (c, b)

/-- The block of rows at a grid point. -/
theorem reads0 (c : Dev nD) (t : Fin cfg0.N) (r : Fin 256) (k : Fin 1024) (i : Fin 32768) (hi : i.val = t.val * 256 + r.val) : (iblk m c 0 t : FVec Ideal S256x1024 .f32) (ix2 r k) = (m ((c : Thread nD τ).loc main_arg0) : FVec Ideal S4x8192x1024 .f32) (ix3 ⟨i.val / 8192, by omega⟩ ⟨i.val % 8192, Nat.mod_lt _ (by decide)⟩ k) := by
  have h : (iblk m c 0 t : FVec Ideal S256x1024 .f32) (ix2 r k) = (StableHlo.after Prep.line (at0 m c) (Proc.devRef .tc main_v0) : FVec Ideal S32768x1024 .f32) (ix2 i k) := by
    blk_ext [iblk, V, idx t]
  exact h.trans (Prep.line_rows _ _ _)

/-- The input norm's gain. -/
theorem reads1 (c : Dev nD) (t : Fin cfg0.N) (k : Fin 1024) : (iblk m c 1 t : FVec Ideal S1x1024 .f32) (ix2 0 k) = (m ((c : Thread nD τ).loc main_arg1) : FVec Ideal S1024 .f32) (ix1 k) := by
  have h : (iblk m c 1 t : FVec Ideal S1x1024 .f32) (ix2 0 k) = (StableHlo.after Prep.line (at0 m c) (Proc.devRef .tc main_v41) : FVec Ideal S1x1024 .f32) (ix2 0 k) := by
    blk_ext [iblk, V, idx t]
  exact h.trans (Prep.line_gain _ _)

/-- The matrix. -/
theorem reads2 (c : Dev nD) (t : Fin cfg0.N) (k : Fin 1024) (d : Fin 4096) : (iblk m c 2 t : FVec Ideal S1024x4096 .bf16) (ix2 k d) = (m ((c : Thread nD τ).loc main_arg2) : FVec Ideal S1024x4096 .f32) (ix2 k d) := by
  have h : (iblk m c 2 t : FVec Ideal S1024x4096 .bf16) (ix2 k d) = (StableHlo.after Prep.line (at0 m c) (Proc.devRef .tc main_v1) : FVec Ideal S1024x4096 .bf16) (ix2 k d) := by
    blk_ext [iblk, V, idx t]
  exact h.trans (Prep.line_mat _ _ _)

/-- The queries' gain. -/
theorem reads3 (c : Dev nD) (t : Fin cfg0.N) (l : Fin 128) : (iblk m c 3 t : FVec Ideal S1x128 .f32) (ix2 0 l) = (m ((c : Thread nD τ).loc main_arg3) : FVec Ideal S64 .f32) (ix1 ⟨l.val % 64, Nat.mod_lt _ (by decide)⟩) := by
  have h : (iblk m c 3 t : FVec Ideal S1x128 .f32) (ix2 0 l) = (StableHlo.after Prep.line (at0 m c) (Proc.devRef .tc main_v43) : FVec Ideal S1x128 .f32) (ix2 0 l) := by
    blk_ext [iblk, V, idx t]
  exact h.trans (Prep.line_gq _ _)

/-- The keys' gain. -/
theorem reads4 (c : Dev nD) (t : Fin cfg0.N) (l : Fin 128) : (iblk m c 4 t : FVec Ideal S1x128 .f32) (ix2 0 l) = (m ((c : Thread nD τ).loc main_arg4) : FVec Ideal S64 .f32) (ix1 ⟨l.val % 64, Nat.mod_lt _ (by decide)⟩) := by
  have h : (iblk m c 4 t : FVec Ideal S1x128 .f32) (ix2 0 l) = (StableHlo.after Prep.line (at0 m c) (Proc.devRef .tc main_v45) : FVec Ideal S1x128 .f32) (ix2 0 l) := by
    blk_ext [iblk, V, idx t]
  exact h.trans (Prep.line_gk _ _)

/-- The indicator of equal heads. -/
theorem reads5 (c : Dev nD) (t : Fin cfg0.N) (e d : Fin 512) : (iblk m c 5 t : FVec Ideal S512x512 .bf16) (ix2 e d) = if e.val / 64 = d.val / 64 then (1 : EReal) else (0 : EReal) := by
  have h : (iblk m c 5 t : FVec Ideal S512x512 .bf16) (ix2 e d) = (StableHlo.after Prep.line (at0 m c) (Proc.devRef .tc main_v40) : FVec Ideal S512x512 .bf16) (ix2 e d) := by
    blk_ext [iblk, V, idx t]
  exact h.trans (Prep.line_ones _ _ _)

/-- The block of cosines at a grid point. -/
theorem reads6 (c : Dev nD) (t : Fin cfg0.N) (r : Fin 256) (l : Fin 128) (p : Fin 8192) (hp : p.val = t.val % 32 * 256 + r.val) : (iblk m c 6 t : FVec Ideal S256x128 .f32) (ix2 r l) = if l.val % 64 < 16 then Ideal.cos (ang p.val (l.val % 8)) else (1 : EReal) := by
  have h : (iblk m c 6 t : FVec Ideal S256x128 .f32) (ix2 r l) = (StableHlo.after Prep.line (at0 m c) (Proc.devRef .tc main_v24) : FVec Ideal S8192x128 .f32) (ix2 p l) := by
    blk_ext [iblk, V, idx t]
  exact h.trans (Prep.line_ct _ _ _)

/-- The block of negated sines at a grid point. -/
theorem reads7 (c : Dev nD) (t : Fin cfg0.N) (r : Fin 256) (l : Fin 128) (p : Fin 8192) (hp : p.val = t.val % 32 * 256 + r.val) : (iblk m c 7 t : FVec Ideal S256x128 .f32) (ix2 r l) = if l.val % 64 < 8 then -Ideal.sin (ang p.val (l.val % 8)) else (0 : EReal) := by
  have h : (iblk m c 7 t : FVec Ideal S256x128 .f32) (ix2 r l) = (StableHlo.after Prep.line (at0 m c) (Proc.devRef .tc main_v28) : FVec Ideal S8192x128 .f32) (ix2 p l) := by
    blk_ext [iblk, V, idx t]
  exact h.trans (Prep.line_sa _ _ _)

/-- The block of sines at a grid point. -/
theorem reads8 (c : Dev nD) (t : Fin cfg0.N) (r : Fin 256) (l : Fin 128) (p : Fin 8192) (hp : p.val = t.val % 32 * 256 + r.val) : (iblk m c 8 t : FVec Ideal S256x128 .f32) (ix2 r l) = if 8 ≤ l.val % 64 ∧ l.val % 64 < 16 then Ideal.sin (ang p.val (l.val % 8)) else (0 : EReal) := by
  have h : (iblk m c 8 t : FVec Ideal S256x128 .f32) (ix2 r l) = (StableHlo.after Prep.line (at0 m c) (Proc.devRef .tc main_v32) : FVec Ideal S8192x128 .f32) (ix2 p l) := by
    blk_ext [iblk, V, idx t]
  exact h.trans (Prep.line_sb _ _ _)

end Cert.InProjIdeal.Tokens
end
-- ==== Proof.InProj.Ref.lean ====
/- The reference's run: every result array as a function of the arguments, through named intermediate arrays. -/
module

public import proofs.«01_k».proof.Proof.Gen.InProjRefIdeal
public import Idealize.ShloMosaic.Lib.StableHlo.Run
public import Idealize.ShloMosaic.Lib.StableHlo.RunHlo
public import Idealize.ShloMosaic.Lib.StableHlo.RunRead
public import Idealize.ShloMosaic.Lib.Pointwise
public import Idealize.ShloMosaic.Lib.Claim
public import Idealize.ShloMosaic.Lib.Quiescent

@[expose] public section

set_option maxRecDepth 100000

noncomputable section

open Idealize.ShloMosaic Idealize.ShloMosaic.TcCoe Idealize.SL.Sem

namespace Cert.InProjRefIdeal.Staged
open Cert.InProjRefIdeal Cert.InProjRefIdeal.Gen

/-- A list of host operations. -/
abbrev Ops := List (HloOp τ sig (Elt Ideal))
/-- The contents of the buffers. -/
abbrev Bufs := Valuation τ sig (Elt Ideal)

/-- The first part of the reference. -/
def ops0 : { l : Ops // ∀ d, StableHlo.IsSeq (main_part0 (F := Ideal) d) l } := by apply Subtype.mk; hlo_seq
/-- The second part of the reference. -/
def ops1 : { l : Ops // ∀ d, StableHlo.IsSeq (main_part1 (F := Ideal) d) l } := by apply Subtype.mk; hlo_seq
/-- The third part of the reference. -/
def ops2 : { l : Ops // ∀ d, StableHlo.IsSeq (main_part2 (F := Ideal) d) l } := by apply Subtype.mk; hlo_seq

/-- The normed rows times the projection's matrix. -/
def proj (x : FVec Ideal S4x8192x1024 .f32) (g : FVec Ideal S1024 .f32) (w : FVec Ideal S1024x4096 .f32) :
    FVec Ideal S4x8192x4096 .f32 :=
  Host.dotGeneral dot_S4x8192x1024_S1024x4096_S4x8192x4096_2_0_01_1_n_n none
    (mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf x x) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
      (broadcastInDim S4x8192x1024 ![0, 1, 2] bcast_S1x1x1024_S4x8192x1024_0_1_2
        (broadcastInDim S1x1x1024 ![2] bcast_S1024_S1x1x1024_2 g))) w

set_option maxHeartbeats 2000000 in
/-- The combined projection. -/
theorem read_v14 (σ : Bufs) : StableHlo.after ops0.1 σ (Proc.devRef .tc main_v14)
    = proj (σ (Proc.devRef .tc main_arg0)) (σ (Proc.devRef .tc main_arg1)) (σ (Proc.devRef .tc main_arg2)) := by
  simp only [ops0]
  after_results_simp
  rfl

/-- The projection's 512 columns of the queries or keys, by head. -/
def heads (y : FVec Ideal S4x8192x512 .f32) : FVec Ideal S4x8x8192x64 .f32 :=
  transpose S4x8x8192x64 [0, 2, 1, 3] (shapeCast S4x8192x8x64 y shapeCasts_S4x8192x512_S4x8192x8x64) transposes_S4x8192x8x64_S4x8x8192x64_0_2_1_3

/-- The heads' norm. -/
def headNorm (t : FVec Ideal S4x8x8192x64 .f32) (g : FVec Ideal S64 .f32) : FVec Ideal S4x8x8192x64 .f32 :=
  mulf (mulf t (broadcastInDim S4x8x8192x64 ![0, 1, 2, 3] bcast_S4x8x8192x1_S4x8x8192x64_0_1_2_3
      (Host.rsqrt (addf (Host.divf (broadcastInDim S4x8x8192x1 ![0, 1, 2] bcast_S4x8x8192_S4x8x8192x1_0_1_2
          (Host.reduceAdd (mulf t t) (constant S_ .f32 0x00000000#32) reducesTo_S4x8x8192x64_S4x8x8192_d3 h_S_))
        (broadcastInDim S4x8x8192x1 ![] bcast_S_S4x8x8192x1 (constant S_ .f32 0x42800000#32)))
        (broadcastInDim S4x8x8192x1 ![] bcast_S_S4x8x8192x1 (constant S_ .f32 0x358637BD#32))))))
    (broadcastInDim S4x8x8192x64 ![0, 1, 2, 3] bcast_S1x1x1x64_S4x8x8192x64_0_1_2_3
      (broadcastInDim S1x1x1x64 ![3] bcast_S64_S1x1x1x64_3 g))

/-- The positions. -/
def positions : FVec Ideal S8192 .f32 := sitofp .f32 (iotaInDim S8192 32 0)

/-- The rotation's angles: position times inverse frequency. -/
def angle (pos : FVec Ideal S8192 .f32) : FVec Ideal S8192x8 .f32 :=
  mulf (broadcastInDim S8192x8 ![0, 1] bcast_S8192x1_S8192x8_0_1
      (broadcastInDim S8192x1 ![0] bcast_S8192_S8192x1_0 pos))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (Host.divf (mulf (Host.negf (sitofp .f32 (iotaInDim S8 32 0)))
          (broadcastInDim S8 ![] bcast_S_S8 (constant S_ .f32 0x40000000#32)))
          (broadcastInDim S8 ![] bcast_S_S8 (constant S_ .f32 0x41800000#32))))))

/-- A table of the rotation, over batches and heads. -/
def spread (a : FVec Ideal S8192x8 .f32) : FVec Ideal S4x8x8192x8 .f32 :=
  broadcastInDim S4x8x8192x8 ![0, 1, 2, 3] bcast_S1x1x8192x8_S4x8x8192x8_0_1_2_3
    (broadcastInDim S1x1x8192x8 ![2, 3] bcast_S8192x8_S1x1x8192x8_2_3 a)

/-- The partial rotation of the heads' first sixteen lanes. -/
def rope (t : FVec Ideal S4x8x8192x64 .f32) (co si : FVec Ideal S8192x8 .f32) : FVec Ideal S4x8x8192x64 .f32 :=
  concatenate S4x8x8192x64 3
    [⟨S4x8x8192x16, concatenate S4x8x8192x16 3
      [⟨S4x8x8192x8, subf (mulf (extractStridedSlice S4x8x8192x8 ![0, 0, 0, 0] t slices_S4x8x8192x64_S4x8x8192x8_0_0_0_0) (spread co))
          (mulf (extractStridedSlice S4x8x8192x8 ![0, 0, 0, 8] t slices_S4x8x8192x64_S4x8x8192x8_0_0_0_8) (spread si))⟩,
       ⟨S4x8x8192x8, addf (mulf (extractStridedSlice S4x8x8192x8 ![0, 0, 0, 8] t slices_S4x8x8192x64_S4x8x8192x8_0_0_0_8) (spread co))
          (mulf (extractStridedSlice S4x8x8192x8 ![0, 0, 0, 0] t slices_S4x8x8192x64_S4x8x8192x8_0_0_0_0) (spread si))⟩]
      concatenates_S4x8x8192x8_S4x8x8192x8_S4x8x8192x16_d3⟩,
     ⟨S4x8x8192x48, extractStridedSlice S4x8x8192x48 ![0, 0, 0, 16] t slices_S4x8x8192x64_S4x8x8192x48_0_0_0_16⟩]
    concatenates_S4x8x8192x16_S4x8x8192x48_S4x8x8192x64_d3

/-- The columns `o … o + 511` of the projection. -/
def cols0 (p : FVec Ideal S4x8192x4096 .f32) := extractStridedSlice S4x8192x512 ![0, 0, 0] p slices_S4x8192x4096_S4x8192x512_0_0_0
/-- The queries' columns. -/
def cols512 (p : FVec Ideal S4x8192x4096 .f32) := extractStridedSlice S4x8192x512 ![0, 0, 512] p slices_S4x8192x4096_S4x8192x512_0_0_512
/-- The keys' columns. -/
def cols1024 (p : FVec Ideal S4x8192x4096 .f32) := extractStridedSlice S4x8192x512 ![0, 0, 1024] p slices_S4x8192x4096_S4x8192x512_0_0_1024
/-- The values' columns. -/
def cols1536 (p : FVec Ideal S4x8192x4096 .f32) := extractStridedSlice S4x8192x512 ![0, 0, 1536] p slices_S4x8192x4096_S4x8192x512_0_0_1536
/-- The scan gate's columns. -/
def cols2048 (p : FVec Ideal S4x8192x4096 .f32) := extractStridedSlice S4x8192x1024 ![0, 0, 2048] p slices_S4x8192x4096_S4x8192x1024_0_0_2048
/-- The attention gate's columns. -/
def cols3072 (p : FVec Ideal S4x8192x4096 .f32) := extractStridedSlice S4x8192x1024 ![0, 0, 3072] p slices_S4x8192x4096_S4x8192x1024_0_0_3072

/-- The first result: the gates and the state's input, side by side. -/
def gu (a b : FVec Ideal S4x8192x1024 .f32) (u : FVec Ideal S4x8192x512 .f32) : FVec Ideal S32768x2560 .f32 :=
  shapeCast S32768x2560 (concatenate S4x8192x2560 2 [⟨S4x8192x1024, a⟩, ⟨S4x8192x1024, b⟩, ⟨S4x8192x512, u⟩] concatenates_S4x8192x1024_S4x8192x1024_S4x8192x512_S4x8192x2560_d2) shapeCasts_S4x8192x2560_S32768x2560

/-- Heads laid side by side again. -/
def flat (t : FVec Ideal S4x8x8192x64 .f32) : FVec Ideal S4x8192x512 .f32 :=
  shapeCast S4x8192x512 (transpose S4x8192x8x64 [0, 2, 1, 3] t transposes_S4x8x8192x64_S4x8192x8x64_0_2_1_3) shapeCasts_S4x8192x8x64_S4x8192x512

/-- The flattened heads in the shorter format. -/
def kflat (t : FVec Ideal S4x8x8192x64 .f32) : FVec Ideal S4x8192x512 .bf16 := truncf .bf16 (flat t) bitsLt_bf16_f32

/-- The values, transposed. -/
def vt (y : FVec Ideal S4x8192x512 .f32) : FVec Ideal S4x512x8192 .bf16 :=
  truncf .bf16 (transpose S4x512x8192 [0, 2, 1] y transposes_S4x8192x512_S4x512x8192_0_2_1) bitsLt_bf16_f32

/-- The keys' means over blocks of 256 positions. -/
def kmean (t : FVec Ideal S4x8x8192x64 .f32) : FVec Ideal S4x32x1x512 .f32 :=
  shapeCast S4x32x1x512 (transpose S4x32x8x64 [0, 2, 1, 3]
    (Host.divf (Host.reduceAdd (shapeCast S4x8x32x256x64 t shapeCasts_S4x8x8192x64_S4x8x32x256x64) (constant S_ .f32 0x00000000#32) reducesTo_S4x8x32x256x64_S4x8x32x64_d3 h_S_)
      (broadcastInDim S4x8x32x64 ![] bcast_S_S4x8x32x64 (constant S_ .f32 0x43800000#32))) transposes_S4x8x32x64_S4x32x8x64_0_2_1_3) shapeCasts_S4x32x8x64_S4x32x1x512

/-- The queries or keys, normed and rotated. -/
def roped (y : FVec Ideal S4x8192x512 .f32) (g : FVec Ideal S64 .f32) (pos : FVec Ideal S8192 .f32) : FVec Ideal S4x8x8192x64 .f32 :=
  rope (headNorm (heads y) g) (Host.cos (angle pos)) (Host.sin (angle pos))

section Reads
variable (σ : Bufs)

set_option maxHeartbeats 2000000 in
/-- The scan's columns after the first part. -/
theorem read0_v15 : StableHlo.after ops0.1 σ (Proc.devRef .tc main_v15) = cols0 (proj (σ (Proc.devRef .tc main_arg0)) (σ (Proc.devRef .tc main_arg1)) (σ (Proc.devRef .tc main_arg2))) := by
  simp only [ops0]
  after_results_simp
  rfl

set_option maxHeartbeats 2000000 in
/-- The keys' columns after the first part. -/
theorem read0_v17 : StableHlo.after ops0.1 σ (Proc.devRef .tc main_v17) = cols1024 (proj (σ (Proc.devRef .tc main_arg0)) (σ (Proc.devRef .tc main_arg1)) (σ (Proc.devRef .tc main_arg2))) := by
  simp only [ops0]
  after_results_simp
  rfl

set_option maxHeartbeats 2000000 in
/-- The values' columns after the first part. -/
theorem read0_v18 : StableHlo.after ops0.1 σ (Proc.devRef .tc main_v18) = cols1536 (proj (σ (Proc.devRef .tc main_arg0)) (σ (Proc.devRef .tc main_arg1)) (σ (Proc.devRef .tc main_arg2))) := by
  simp only [ops0]
  after_results_simp
  rfl

set_option maxHeartbeats 2000000 in
/-- The scan gate's columns after the first part. -/
theorem read0_v19 : StableHlo.after ops0.1 σ (Proc.devRef .tc main_v19) = cols2048 (proj (σ (Proc.devRef .tc main_arg0)) (σ (Proc.devRef .tc main_arg1)) (σ (Proc.devRef .tc main_arg2))) := by
  simp only [ops0]
  after_results_simp
  rfl

set_option maxHeartbeats 2000000 in
/-- The attention gate's columns after the first part. -/
theorem read0_v20 : StableHlo.after ops0.1 σ (Proc.devRef .tc main_v20) = cols3072 (proj (σ (Proc.devRef .tc main_arg0)) (σ (Proc.devRef .tc main_arg1)) (σ (Proc.devRef .tc main_arg2))) := by
  simp only [ops0]
  after_results_simp
  rfl

set_option maxHeartbeats 2000000 in
/-- The queries' normed heads after the first part. -/
theorem read0_v35 : StableHlo.after ops0.1 σ (Proc.devRef .tc main_v35) = headNorm (heads (cols512 (proj (σ (Proc.devRef .tc main_arg0)) (σ (Proc.devRef .tc main_arg1)) (σ (Proc.devRef .tc main_arg2))))) (σ (Proc.devRef .tc main_arg3)) := by
  simp only [ops0]
  after_results_simp
  rfl

set_option maxHeartbeats 2000000 in
/-- The positions after the first part. -/
theorem read0_v0 : StableHlo.after ops0.1 σ (Proc.devRef .tc main_v0) = positions := by
  simp only [ops0]
  after_results_simp
  rfl

set_option maxHeartbeats 2000000 in
/-- The cosines after the first part. -/
theorem read0_v49 : StableHlo.after ops0.1 σ (Proc.devRef .tc main_v49) = Host.cos (angle positions) := by
  simp only [ops0]
  after_results_simp
  rfl

set_option maxHeartbeats 2000000 in
/-- The sines after the first part. -/
theorem read0_v50 : StableHlo.after ops0.1 σ (Proc.devRef .tc main_v50) = Host.sin (angle positions) := by
  simp only [ops0]
  after_results_simp
  rfl

set_option maxHeartbeats 2000000 in
/-- An argument stays as it was. -/
theorem read0_arg0 : StableHlo.after ops0.1 σ (Proc.devRef .tc main_arg0) = σ (Proc.devRef .tc main_arg0) := by
  simp only [ops0]
  after_results_simp

set_option maxHeartbeats 2000000 in
/-- An argument stays as it was. -/
theorem read0_arg1 : StableHlo.after ops0.1 σ (Proc.devRef .tc main_arg1) = σ (Proc.devRef .tc main_arg1) := by
  simp only [ops0]
  after_results_simp

set_option maxHeartbeats 2000000 in
/-- An argument stays as it was. -/
theorem read0_arg2 : StableHlo.after ops0.1 σ (Proc.devRef .tc main_arg2) = σ (Proc.devRef .tc main_arg2) := by
  simp only [ops0]
  after_results_simp

set_option maxHeartbeats 2000000 in
/-- An argument stays as it was. -/
theorem read0_arg3 : StableHlo.after ops0.1 σ (Proc.devRef .tc main_arg3) = σ (Proc.devRef .tc main_arg3) := by
  simp only [ops0]
  after_results_simp

set_option maxHeartbeats 2000000 in
/-- An argument stays as it was. -/
theorem read0_arg4 : StableHlo.after ops0.1 σ (Proc.devRef .tc main_arg4) = σ (Proc.devRef .tc main_arg4) := by
  simp only [ops0]
  after_results_simp

set_option maxHeartbeats 2000000 in
/-- The first result. -/
theorem read_gu : StableHlo.after ops2.1 (StableHlo.after ops1.1 σ) (Proc.devRef .tc main_v120)
    = gu (σ (Proc.devRef .tc main_v19)) (σ (Proc.devRef .tc main_v20)) (σ (Proc.devRef .tc main_v15)) := by
  simp only [ops1, ops2]
  after_results
  rfl

set_option maxHeartbeats 2000000 in
/-- The second result. -/
theorem read_q : StableHlo.after ops2.1 (StableHlo.after ops1.1 σ) (Proc.devRef .tc main_v126) = flat (rope (σ (Proc.devRef .tc main_v35)) (σ (Proc.devRef .tc main_v49)) (σ (Proc.devRef .tc main_v50))) := by
  simp only [ops1, ops2]
  after_results
  rfl

set_option maxHeartbeats 2000000 in
/-- The third result. -/
theorem read_k :
    StableHlo.after ops2.1 (StableHlo.after ops1.1 σ) (Proc.devRef .tc main_v129) = kflat (roped (σ (Proc.devRef .tc main_v17)) (σ (Proc.devRef .tc main_arg4)) (σ (Proc.devRef .tc main_v0))) := by
  simp only [ops1, ops2]
  after_results
  rfl

set_option maxHeartbeats 2000000 in
/-- The fourth result. -/
theorem read_vt : StableHlo.after ops2.1 (StableHlo.after ops1.1 σ) (Proc.devRef .tc main_v131) = vt (σ (Proc.devRef .tc main_v18)) := by
  simp only [ops1, ops2]
  after_results_simp
  rfl

set_option maxHeartbeats 2000000 in
/-- The fifth result. -/
theorem read_kmean :
    StableHlo.after ops2.1 (StableHlo.after ops1.1 σ) (Proc.devRef .tc main_v133) = kmean (roped (σ (Proc.devRef .tc main_v17)) (σ (Proc.devRef .tc main_arg4)) (σ (Proc.devRef .tc main_v0))) := by
  simp only [ops1, ops2]
  after_results
  rfl

set_option maxHeartbeats 2000000 in
/-- An argument stays as it was. -/
theorem read_arg0 : StableHlo.after ops2.1 (StableHlo.after ops1.1 σ) (Proc.devRef .tc main_arg0) = σ (Proc.devRef .tc main_arg0) := by
  simp only [ops1, ops2]
  after_results_simp

set_option maxHeartbeats 2000000 in
/-- An argument stays as it was. -/
theorem read_arg1 : StableHlo.after ops2.1 (StableHlo.after ops1.1 σ) (Proc.devRef .tc main_arg1) = σ (Proc.devRef .tc main_arg1) := by
  simp only [ops1, ops2]
  after_results_simp

set_option maxHeartbeats 2000000 in
/-- An argument stays as it was. -/
theorem read_arg2 : StableHlo.after ops2.1 (StableHlo.after ops1.1 σ) (Proc.devRef .tc main_arg2) = σ (Proc.devRef .tc main_arg2) := by
  simp only [ops1, ops2]
  after_results_simp

set_option maxHeartbeats 2000000 in
/-- An argument stays as it was. -/
theorem read_arg3 : StableHlo.after ops2.1 (StableHlo.after ops1.1 σ) (Proc.devRef .tc main_arg3) = σ (Proc.devRef .tc main_arg3) := by
  simp only [ops1, ops2]
  after_results_simp

set_option maxHeartbeats 2000000 in
/-- An argument stays as it was. -/
theorem read_arg4 : StableHlo.after ops2.1 (StableHlo.after ops1.1 σ) (Proc.devRef .tc main_arg4) = σ (Proc.devRef .tc main_arg4) := by
  simp only [ops1, ops2]
  after_results_simp

end Reads

/-- All the operations, in order. -/
def allOps : Ops := ops0.1 ++ (ops1.1 ++ ops2.1)

/-- The reference is its operations in order. -/
theorem main_seq (d : Dev nD) : StableHlo.IsSeq (main (F := Ideal) d) allOps := by
  unfold StableHlo.IsSeq allOps
  have h0 := ops0.2 d
  have h1 := ops1.2 d
  have h2 := ops2.2 d
  unfold StableHlo.IsSeq at h0 h1 h2
  rw [StableHlo.seq_append, StableHlo.seq_append, ← h0, ← h1, ← h2]
  rfl

/-- The reference, taken part by part. -/
theorem after_all (σ : Bufs) : StableHlo.after allOps σ = StableHlo.after ops2.1 (StableHlo.after ops1.1 (StableHlo.after ops0.1 σ)) := by
  unfold allOps
  rw [StableHlo.after_append, StableHlo.after_append]

/-- Every operation names buffers of the core. -/
theorem sub_all : allOps.Forall fun op => op.bufs ⊆ StableHlo.tcRefs τ sig := by
  simp [allOps, ops0, ops1, ops2]

/-- No operation draws a new value. -/
theorem fresh_all : ∀ op ∈ allOps, op.fresh = ∅ := by
  unfold allOps ops0 ops1 ops2
  intro _ h
  repeat (cases h with | head => rfl | tail _ h => ?_)
  exact nomatch h

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v120) = gu (cols2048 (proj (m ((c.tc : Thread nD τ).loc main_arg0)) (m ((c.tc : Thread nD τ).loc main_arg1)) (m ((c.tc : Thread nD τ).loc main_arg2)))) (cols3072 (proj (m ((c.tc : Thread nD τ).loc main_arg0)) (m ((c.tc : Thread nD τ).loc main_arg1)) (m ((c.tc : Thread nD τ).loc main_arg2)))) (cols0 (proj (m ((c.tc : Thread nD τ).loc main_arg0)) (m ((c.tc : Thread nD τ).loc main_arg1)) (m ((c.tc : Thread nD τ).loc main_arg2))))
      ∧ r.2.mem ((c.tc : Thread nD τ).loc main_v126) = flat (roped (cols512 (proj (m ((c.tc : Thread nD τ).loc main_arg0)) (m ((c.tc : Thread nD τ).loc main_arg1)) (m ((c.tc : Thread nD τ).loc main_arg2)))) (m ((c.tc : Thread nD τ).loc main_arg3)) positions)
      ∧ r.2.mem ((c.tc : Thread nD τ).loc main_v129) = kflat (roped (cols1024 (proj (m ((c.tc : Thread nD τ).loc main_arg0)) (m ((c.tc : Thread nD τ).loc main_arg1)) (m ((c.tc : Thread nD τ).loc main_arg2)))) (m ((c.tc : Thread nD τ).loc main_arg4)) positions)
      ∧ r.2.mem ((c.tc : Thread nD τ).loc main_v131) = vt (cols1536 (proj (m ((c.tc : Thread nD τ).loc main_arg0)) (m ((c.tc : Thread nD τ).loc main_arg1)) (m ((c.tc : Thread nD τ).loc main_arg2))))
      ∧ r.2.mem ((c.tc : Thread nD τ).loc main_v133) = kmean (roped (cols1024 (proj (m ((c.tc : Thread nD τ).loc main_arg0)) (m ((c.tc : Thread nD τ).loc main_arg1)) (m ((c.tc : Thread nD τ).loc main_arg2)))) (m ((c.tc : Thread nD τ).loc main_arg4)) positions)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (StableHlo.run_hlo _ _ main_seq (by decide) (by decide) sub_all fresh_all m ρ) fun r h c => ⟨
    (h c main_v120).trans (by rw [after_all, read_gu, read0_v19, read0_v20, read0_v15]),
    (h c main_v126).trans (by rw [after_all, read_q, read0_v35, read0_v49, read0_v50]; rfl),
    (h c main_v129).trans (by rw [after_all, read_k, read0_v17, read0_arg4, read0_v0]),
    (h c main_v131).trans (by rw [after_all, read_vt, read0_v18]),
    (h c main_v133).trans (by rw [after_all, read_kmean, read0_v17, read0_arg4, read0_v0]),
    (h c main_arg0).trans (by rw [after_all, read_arg0, read0_arg0]),
    (h c main_arg1).trans (by rw [after_all, read_arg1, read0_arg1]),
    (h c main_arg2).trans (by rw [after_all, read_arg2, read0_arg2]),
    (h c main_arg3).trans (by rw [after_all, read_arg3, read0_arg3]),
    (h c main_arg4).trans (by rw [after_all, read_arg4, read0_arg4])⟩

end Cert.InProjRefIdeal.Staged
end
-- ==== Proof.InProj.Entry.lean ====
module

public import proofs.«01_k».proof.Proof.InProj.Ref
public import proofs.«01_k».proof.Proof.InProj.Rotation

@[expose] public section

set_option maxRecDepth 100000

noncomputable section

open Idealize.ShloMosaic Idealize.ShloMosaic.TcCoe Idealize.SL.Sem

namespace Cert.InProjRefIdeal.Staged
open Cert.Rotation Cert.InProjRefIdeal Cert.InProjRefIdeal.Gen

/-- One entry of the combined projection of the normed input. -/
theorem proj_entry (x : FVec Ideal S4x8192x1024 .f32) (g : FVec Ideal S1024 .f32) (w : FVec Ideal S1024x4096 .f32) (b : Fin 4) (s : Fin 8192) (d : Fin 4096) :
    proj x g w (ix3 b s d) = ∑ k : Fin 1024, (x (ix3 b s k) * Ideal.rsqrt (Ideal.div (∑ j : Fin 1024, x (ix3 b s j) * x (ix3 b s j)) (Ideal.ofBits .f32 0x44800000#32)
          + Ideal.ofBits .f32 0x358637BD#32) * g (ix1 k)) * w (ix2 k d) := by
  pointwise [proj]

/-- One entry of the heads' norm. -/
theorem norm_entry (y : FVec Ideal S4x8192x512 .f32) (g : FVec Ideal S64 .f32) (b : Fin 4) (s : Fin 8192) (h : Fin 8) (e : Fin 64) :
    headNorm (heads y) g (ix4 b h s e) = scaled (fun e => y (ix3 b s ⟨h.val * 64 + e.val, by omega⟩)) (fun e => g (ix1 e)) e := by
  pointwise [headNorm, heads]
  rfl

/-- One entry of the partial rotation. -/
theorem rope_entry (t : FVec Ideal S4x8x8192x64 .f32) (b : Fin 4) (s : Fin 8192) (h : Fin 8) (e : Fin 64) :
    rope t (Host.cos (angle positions)) (Host.sin (angle positions)) (ix4 b h s e) = spun (fun e => t (ix4 b h s e)) s.val e := by
  pointwise [rope, angle, positions, spread]
  unfold spun
  by_cases h1 : e.val < 16
  · rw [dif_pos h1, dif_pos h1]
    by_cases h2 : e.val < 8
    · rw [dif_pos h2, dif_pos h2]
      simp only [Nat.add_comm 8]
      rfl
    · rw [dif_neg h2, dif_neg h2]
      simp only [show 8 + (e.val - 8) = e.val by omega]
      rfl
  · rw [dif_neg h1, dif_neg h1]
    simp only [show 16 + (e.val - 16) = e.val by omega]

/-- One entry of the queries or keys: the head's lane, normed and rotated. -/
theorem roped_entry (y : FVec Ideal S4x8192x512 .f32) (g : FVec Ideal S64 .f32) (b : Fin 4) (s : Fin 8192) (h : Fin 8) (e : Fin 64) :
    roped y g positions (ix4 b h s e) = spun (scaled (fun e => y (ix3 b s ⟨h.val * 64 + e.val, by omega⟩)) (fun e => g (ix1 e))) s.val e := by
  unfold roped
  rw [rope_entry]
  simp only [norm_entry]

/-- Column `d` of the flattened heads is lane `d % 64` of head `d / 64`. -/
theorem flat_entry (t : FVec Ideal S4x8x8192x64 .f32) (b : Fin 4) (s : Fin 8192) (d : Fin 512) :
    flat t (ix3 b s d) = t (ix4 b ⟨d.val / 64, by omega⟩ s ⟨d.val % 64, by omega⟩) := by
  pointwise [flat]

/-- The same for the keys, in their shorter format. -/
theorem kflat_entry (t : FVec Ideal S4x8x8192x64 .f32) (b : Fin 4) (s : Fin 8192) (d : Fin 512) :
    kflat t (ix3 b s d) = t (ix4 b ⟨d.val / 64, by omega⟩ s ⟨d.val % 64, by omega⟩) := by
  pointwise [kflat, flat]

/-- The values with columns before rows. -/
theorem vt_entry (y : FVec Ideal S4x8192x512 .f32) (b : Fin 4) (s : Fin 8192) (d : Fin 512) :
    vt y (ix3 b d s) = y (ix3 b s d) := by
  pointwise [vt]

/-- The mean of one chunk's 256 keys. -/
theorem kmean_entry (t : FVec Ideal S4x8x8192x64 .f32) (b : Fin 4) (n : Fin 32) (d : Fin 512) :
    kmean t (ix4 b n 0 d) = Ideal.div (∑ r : Fin 256, t (ix4 b ⟨d.val / 64, by omega⟩ ⟨n.val * 256 + r.val, by omega⟩ ⟨d.val % 64, by omega⟩)) (Ideal.ofBits .f32 0x43800000#32) := by
  pointwise [kmean]

/-- The gates and the scan's input side by side: where each column lies in the projection. -/
theorem gu_entry (P : FVec Ideal S4x8192x4096 .f32) (i : Fin 32768) (n : Fin 2560) (d : Fin 4096) (hd : d.val = if n.val < 2048 then n.val + 2048 else n.val - 2048) :
    gu (cols2048 P) (cols3072 P) (cols0 P) (ix2 i n) = P (ix3 ⟨i.val / 8192, by omega⟩ ⟨i.val % 8192, by omega⟩ d) := by
  pointwise [gu, cols2048, cols3072, cols0]
  have key : ∀ (a : Fin 4096), a.val = d.val → P (ix3 ⟨i.val / 8192, by omega⟩ ⟨i.val % 8192, by omega⟩ a) = P (ix3 ⟨i.val / 8192, by omega⟩ ⟨i.val % 8192, by omega⟩ d) :=
    fun a e => congrArg (fun d => P (ix3 _ _ d)) (Fin.ext e)
  by_cases h : n.val < 1024
  · rw [dif_pos h]
    exact key _ (show 2048 + n.val = d.val by rw [hd, if_pos (by omega)]; omega)
  · rw [dif_neg h]
    by_cases h' : n.val - 1024 < 1024
    · rw [dif_pos h']
      exact key _ (show 3072 + (n.val - 1024) = d.val by rw [hd, if_pos (by omega)]; omega)
    · rw [dif_neg h']
      exact key _ (show n.val - 1024 - 1024 = d.val by rw [hd, if_neg (by omega)]; omega)

/-- The queries' columns. -/
theorem cols512_entry (P : FVec Ideal S4x8192x4096 .f32) (b : Fin 4) (s : Fin 8192) (d : Fin 512) :
    cols512 P (ix3 b s d) = P (ix3 b s ⟨512 + d.val, by omega⟩) := by pointwise [cols512]
/-- The keys' columns. -/
theorem cols1024_entry (P : FVec Ideal S4x8192x4096 .f32) (b : Fin 4) (s : Fin 8192) (d : Fin 512) :
    cols1024 P (ix3 b s d) = P (ix3 b s ⟨1024 + d.val, by omega⟩) := by pointwise [cols1024]
/-- The values' columns. -/
theorem cols1536_entry (P : FVec Ideal S4x8192x4096 .f32) (b : Fin 4) (s : Fin 8192) (d : Fin 512) :
    cols1536 P (ix3 b s d) = P (ix3 b s ⟨1536 + d.val, by omega⟩) := by pointwise [cols1536]

end Cert.InProjRefIdeal.Staged
end
-- ==== Proof.InProj.Finite.lean ====
/- What the claim's precondition says of the memory: gain and matrix hold real numbers. -/
module

public import proofs.«01_k».proof.Defs
public import proofs.«01_k».proof.Proof.Gen.Pre_finite
public import proofs.«01_k».proof.Proof.InProj.Rotation
public import Idealize.ShloMosaic.Lib.ReduceAll
public import Idealize.ShloMosaic.Lib.StableHlo.Predicate

@[expose] public section

noncomputable section

open Idealize.ShloMosaic

namespace Cert.InProjIdeal.Finite
open Cert.Rotation

/-- A number whose absolute value is below infinity is a real number. -/
theorem real_of_bit (x : EReal) (h : (FloatOps.cmpf (F := Ideal) (φ := .f32) .olt (FloatOps.hostAbsf (F := Ideal) (φ := .f32) x) (FloatOps.ofBits (F := Ideal) .f32 0x7F800000#32)) = 1#1) : Real' x := by
  have ht : Ideal.ofBits .f32 0x7F800000#32 = ⊤ := by simp [Ideal.ofBits, Ideal.ieee]
  have hx : max x (-x) < ⊤ := by
    change BitVec.ofBool (decide (max x (-x) < Ideal.ofBits .f32 0x7F800000#32)) = 1#1 at h
    rw [ht] at h
    exact of_decide_eq_true ((StableHlo.Predicate.ofBool_eq_one_iff _).mp h)
  refine Real'.of_ne (fun e => ?_) (fun e => ?_)
  · rw [e] at hx; simp at hx
  · rw [e] at hx; simp at hx

/-- The precondition, read: every entry of the gain and of the matrix is a real number. -/
theorem of_pre (x : FVec Ideal Cert.Pre_finite.S4x8192x1024 .f32) (g : FVec Ideal Cert.Pre_finite.S1024 .f32) (w : FVec Ideal Cert.Pre_finite.S1024x4096 .f32)
    (a b : FVec Ideal Cert.Pre_finite.S64 .f32) [Cert.Pre_finite.Facts] (h : Cert.Pre_finite.fn (F := Ideal) x g w a b = fun _ => 1#1) :
    (∀ k, Real' (g k)) ∧ ∀ i, Real' (w i) := by
  have h1 := congrFun h (fun a => a.elim0)
  unfold Cert.Pre_finite.fn at h1
  simp only [] at h1
  have hand : ∀ p q : BitVec 1, IntOp.andi p q = 1#1 → p = 1#1 ∧ q = 1#1 := by decide
  obtain ⟨hg, hw⟩ := hand _ _ h1
  haveI : Subsingleton Cert.Pre_finite.S_.Idx := ⟨fun a b => funext fun i => i.elim0⟩
  exact ⟨fun k => real_of_bit _ (Host.reduce_andi_all _ _ _ _ _ hg k), fun i => real_of_bit _ (Host.reduce_andi_all _ _ _ _ _ hw i)⟩

end Cert.InProjIdeal.Finite
end
-- ==== Proof.InProj.Value.lean ====
module

public import proofs.«01_k».proof.Proof.Gen.InProjIdeal.Points
public import proofs.«01_k».proof.Proof.Gen.InProjIdeal.Frame
public import proofs.«01_k».proof.Proof.InProj.Tile
public import proofs.«01_k».proof.Proof.InProj.Reads
public import proofs.«01_k».proof.Proof.InProj.Entry
public import proofs.«01_k».proof.Proof.InProj.Finite
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Tokens
open Cert.Rotation Cert.InProjIdeal Cert.InProjIdeal.Gen
variable (m : (ℓ : Loc nD τ sig) → Buf (Elt Ideal) ℓ)

/-- The columns from 2048 on. -/
theorem ld2 (w : FVec Ideal S1024x4096 .bf16) (k : Fin 1024) (d : Fin 512) : (View.ld (Val := Elt Ideal) (e' := .bf16) w r0_2 : FVec Ideal S1024x512 .bf16) (ix2 k d) = w (ix2 k ⟨2048 + d.val, by omega⟩) := by
  pointwise [r0_2]
/-- The columns from 2560 on. -/
theorem ld4 (w : FVec Ideal S1024x4096 .bf16) (k : Fin 1024) (d : Fin 512) : (View.ld (Val := Elt Ideal) (e' := .bf16) w r0_4 : FVec Ideal S1024x512 .bf16) (ix2 k d) = w (ix2 k ⟨2560 + d.val, by omega⟩) := by
  pointwise [r0_4]
/-- The columns from 3072 on. -/
theorem ld6 (w : FVec Ideal S1024x4096 .bf16) (k : Fin 1024) (d : Fin 512) : (View.ld (Val := Elt Ideal) (e' := .bf16) w r0_6 : FVec Ideal S1024x512 .bf16) (ix2 k d) = w (ix2 k ⟨3072 + d.val, by omega⟩) := by
  pointwise [r0_6]
/-- The columns from 3584 on. -/
theorem ld8 (w : FVec Ideal S1024x4096 .bf16) (k : Fin 1024) (d : Fin 512) : (View.ld (Val := Elt Ideal) (e' := .bf16) w r0_8 : FVec Ideal S1024x512 .bf16) (ix2 k d) = w (ix2 k ⟨3584 + d.val, by omega⟩) := by
  pointwise [r0_8]
/-- The columns from 0 on. -/
theorem ld10 (w : FVec Ideal S1024x4096 .bf16) (k : Fin 1024) (d : Fin 512) : (View.ld (Val := Elt Ideal) (e' := .bf16) w r0_10 : FVec Ideal S1024x512 .bf16) (ix2 k d) = w (ix2 k ⟨0 + d.val, by omega⟩) := by
  pointwise [r0_10]
/-- The columns from 512 on. -/
theorem ld14 (w : FVec Ideal S1024x4096 .bf16) (k : Fin 1024) (d : Fin 512) : (View.ld (Val := Elt Ideal) (e' := .bf16) w r0_14 : FVec Ideal S1024x512 .bf16) (ix2 k d) = w (ix2 k ⟨512 + d.val, by omega⟩) := by
  pointwise [r0_14]
/-- The columns from 1024 on. -/
theorem ld17 (w : FVec Ideal S1024x4096 .bf16) (k : Fin 1024) (d : Fin 512) : (View.ld (Val := Elt Ideal) (e' := .bf16) w r0_17 : FVec Ideal S1024x512 .bf16) (ix2 k d) = w (ix2 k ⟨1024 + d.val, by omega⟩) := by
  pointwise [r0_17]
/-- The columns from 1536 on. -/
theorem ld19 (w : FVec Ideal S1024x4096 .bf16) (k : Fin 1024) (d : Fin 512) : (View.ld (Val := Elt Ideal) (e' := .bf16) w r0_19 : FVec Ideal S1024x512 .bf16) (ix2 k d) = w (ix2 k ⟨1536 + d.val, by omega⟩) := by
  pointwise [r0_19]

/-- One entry of the block of queries stored. -/
theorem out10_entry (x0 : FVec Ideal S256x1024 .f32) (x1 : FVec Ideal S1x1024 .f32) (x2 : FVec Ideal S1024x4096 .bf16) (x3 : FVec Ideal S1x128 .f32) (x4 : FVec Ideal S1x128 .f32) (x5 : FVec Ideal S512x512 .bf16) (x6 x7 x8 : FVec Ideal S256x128 .f32) (r : Fin 256) (d : Fin 512) :
    (out0_10 (F := Ideal) x0 x1 x2 x3 x4 x5 x6 x7 x8 : FVec Ideal S1x256x512 .f32) (ix3 0 r d) = k0_pay17 (F := Ideal) (k0_pay10 x6) (k0_pay11 x7) (k0_pay12 x8) (k0_pay13 (k0_pay2 x0 x1) (View.ld x2 r0_14)) (k0_pay14 x3)
      (k0_pay15 (k0_pay2 x0 x1) x5 (View.ld x2 r0_14)) (k0_pay16 (k0_pay2 x0 x1) (View.ld x2 r0_14)) (ix2 r d) := by
  unfold_out out0_10
  frame_out
  pointwise [k0_pay18]

/-- One entry of the block of keys stored: the queries' chain on the keys' columns. -/
theorem out11_entry (x0 : FVec Ideal S256x1024 .f32) (x1 : FVec Ideal S1x1024 .f32) (x2 : FVec Ideal S1024x4096 .bf16) (x3 : FVec Ideal S1x128 .f32) (x4 : FVec Ideal S1x128 .f32) (x5 : FVec Ideal S512x512 .bf16) (x6 x7 x8 : FVec Ideal S256x128 .f32) (r : Fin 256) (d : Fin 512) :
    (out0_11 (F := Ideal) x0 x1 x2 x3 x4 x5 x6 x7 x8 : FVec Ideal S1x256x512 .bf16) (ix3 0 r d) = k0_pay17 (F := Ideal) (k0_pay10 x6) (k0_pay11 x7) (k0_pay12 x8) (k0_pay13 (k0_pay2 x0 x1) (View.ld x2 r0_17)) (k0_pay14 x4)
      (k0_pay15 (k0_pay2 x0 x1) x5 (View.ld x2 r0_17)) (k0_pay16 (k0_pay2 x0 x1) (View.ld x2 r0_17)) (ix2 r d) := by
  rw [← Block.keys_chain]
  unfold_out out0_11
  frame_out
  pointwise [k0_pay27]

/-- One entry of the block of values stored. -/
theorem out12_entry (x0 : FVec Ideal S256x1024 .f32) (x1 : FVec Ideal S1x1024 .f32) (x2 : FVec Ideal S1024x4096 .bf16) (x3 : FVec Ideal S1x128 .f32) (x4 : FVec Ideal S1x128 .f32) (x5 : FVec Ideal S512x512 .bf16) (x6 x7 x8 : FVec Ideal S256x128 .f32) (r : Fin 256) (d : Fin 512) :
    (out0_12 (F := Ideal) x0 x1 x2 x3 x4 x5 x6 x7 x8 : FVec Ideal S1x512x256 .bf16) (ix3 0 d r) = k0_pay13 (F := Ideal) (k0_pay2 x0 x1) (View.ld x2 r0_19) (ix2 r d) := by
  unfold_out out0_12
  frame_out
  pointwise [k0_pay1, k0_pay29, k0_pay13]

/-- One entry of the means stored. -/
theorem out13_entry (x0 : FVec Ideal S256x1024 .f32) (x1 : FVec Ideal S1x1024 .f32) (x2 : FVec Ideal S1024x4096 .bf16) (x3 : FVec Ideal S1x128 .f32) (x4 : FVec Ideal S1x128 .f32) (x5 : FVec Ideal S512x512 .bf16) (x6 x7 x8 : FVec Ideal S256x128 .f32) (d : Fin 512) :
    (out0_13 (F := Ideal) x0 x1 x2 x3 x4 x5 x6 x7 x8 : FVec Ideal S1x1x1x512 .f32) (ix4 0 0 0 d) = Ideal.div (∑ r : Fin 256, k0_pay17 (F := Ideal) (k0_pay10 x6) (k0_pay11 x7) (k0_pay12 x8) (k0_pay13 (k0_pay2 x0 x1) (View.ld x2 r0_17)) (k0_pay14 x4)
      (k0_pay15 (k0_pay2 x0 x1) x5 (View.ld x2 r0_17)) (k0_pay16 (k0_pay2 x0 x1) (View.ld x2 r0_17)) (ix2 r d)) (Ideal.ofBits .f32 0x43800000#32) := by
  rw [← Block.keys_chain]
  unfold_out out0_13
  frame_out
  pointwise [k0_pay28]

/-- The gate and up columns of one block of rows: each piece stored is the normed rows times its columns of the matrix. -/
theorem out9_entry (x0 : FVec Ideal S256x1024 .f32) (x1 : FVec Ideal S1x1024 .f32) (x2 : FVec Ideal S1024x4096 .bf16) (x3 : FVec Ideal S1x128 .f32) (x4 : FVec Ideal S1x128 .f32) (x5 : FVec Ideal S512x512 .bf16) (x6 x7 x8 : FVec Ideal S256x128 .f32) (r : Fin 256) (n : Fin 2560) (d : Fin 4096) (hd : d.val = if n.val < 2048 then n.val + 2048 else n.val - 2048) :
    (out0_9 (F := Ideal) x0 x1 x2 x3 x4 x5 x6 x7 x8 : FVec Ideal S256x2560 .f32) (ix2 r n) = ∑ k : Fin 1024, k0_pay2 (F := Ideal) x0 x1 (ix2 r k) * x2 (ix2 k d) := by
  have key : ∀ (w : FVec Ideal S1024x512 .bf16) (x : S256x512.Idx) (o : ℕ) (ho : o + 512 ≤ 4096), (∀ (k : Fin 1024) (j : Fin 512), w (ix2 k j) = x2 (ix2 k ⟨o + j.val, by omega⟩)) →
      r.val = (x 0).val → d.val = o + (x 1).val → k0_pay13 (F := Ideal) (k0_pay2 x0 x1) w x = ∑ k : Fin 1024, k0_pay2 (F := Ideal) x0 x1 (ix2 r k) * x2 (ix2 k d) := by
    intro w x o ho hw h0 h1
    obtain ⟨j, hj⟩ : ∃ j : Fin 512, j.val = (x 1).val := ⟨x 1, rfl⟩
    have hx : x = (ix2 r j : S256x512.Idx) := by
      funext a
      fin_cases a
      · exact Fin.ext h0.symm
      · exact Fin.ext hj.symm
    rw [hx, Block.proj_tile]
    refine Finset.sum_congr rfl fun k _ => ?_
    rw [hw]
    exact congrArg (fun d => _ * x2 (ix2 k d)) (Fin.ext (by simp only []; omega))
  unfold_out out0_9
  frame_out
  canon_tiles x h
  · have h1' : n.val = 2048 + (x 1).val := h1
    exact key _ x 0 (by decide) (ld10 x2) h0 (by rw [hd, if_neg (by omega)]; omega)
  · have h1' : n.val = 1536 + (x 1).val := h1
    exact key _ x 3584 (by decide) (ld8 x2) h0 (by rw [hd, if_pos (by omega)]; omega)
  · have h1' : n.val = 1024 + (x 1).val := h1
    exact key _ x 3072 (by decide) (ld6 x2) h0 (by rw [hd, if_pos (by omega)]; omega)
  · have h1' : n.val = 512 + (x 1).val := h1
    exact key _ x 2560 (by decide) (ld4 x2) h0 (by rw [hd, if_pos (by omega)]; omega)
  · have h1' : n.val = (x 1).val := h1
    exact key _ x 2048 (by decide) (ld2 x2) h0 (by rw [hd, if_pos (by omega)]; omega)

/-- The whole projection, of the arguments in memory. -/
def P (c : Dev nD) : FVec Ideal Cert.InProjRefIdeal.S4x8192x4096 .f32 :=
  Cert.InProjRefIdeal.Staged.proj (m ((c : Thread nD τ).loc main_arg0)) (m ((c : Thread nD τ).loc main_arg1)) (m ((c : Thread nD τ).loc main_arg2))

/-- A column of a block's projection is that column of the whole projection. -/
theorem proj_col (c : Dev nD) (t : Fin cfg0.N) (r : Fin 256) (d : Fin 512) (i : Fin 32768) (hi : i.val = t.val * 256 + r.val) (w : FVec Ideal S1024x512 .bf16) (o : ℕ) (ho : o + 512 ≤ 4096)
    (hw : ∀ (k : Fin 1024) (j : Fin 512), w (ix2 k j) = (iblk m c 2 t : FVec Ideal S1024x4096 .bf16) (ix2 k ⟨o + j.val, by omega⟩)) :
    k0_pay13 (F := Ideal) (k0_pay2 (iblk m c 0 t) (iblk m c 1 t)) w (ix2 r d) = P m c (ix3 ⟨i.val / 8192, by omega⟩ ⟨i.val % 8192, Nat.mod_lt _ (by decide)⟩ ⟨o + d.val, by omega⟩) := by
  unfold P
  rw [Block.proj_tile, Cert.InProjRefIdeal.Staged.proj_entry]
  refine Finset.sum_congr rfl fun k _ => ?_
  rw [hw, Block.normed, reads1 m c t k, reads2 m c t k]
  simp only [reads0 m c t r _ i hi]

/-- The entries of the projection are real numbers when the gain's and the matrix's are. -/
theorem P_real (c : Dev nD) (hg : ∀ k, Real' ((m ((c : Thread nD τ).loc main_arg1) : FVec Ideal S1024 .f32) k)) (hw : ∀ i, Real' ((m ((c : Thread nD τ).loc main_arg2) : FVec Ideal S1024x4096 .f32) i))
    (b : Fin 4) (s : Fin 8192) (d : Fin 4096) : Real' (P m c (ix3 b s d)) := by
  unfold P
  rw [Cert.InProjRefIdeal.Staged.proj_entry]
  exact Real'.sum _ fun k => (normed_real (fun k => (m ((c : Thread nD τ).loc main_arg0) : FVec Ideal S4x8192x1024 .f32) (ix3 b s k)) _ (hg (ix1 k)) k).mul (hw (ix2 k d))

/-- The rotated entries of a block, of the arguments: the queries' columns begin at 512, the keys' at 1024. -/
theorem rot_col (c : Dev nD) (t : Fin cfg0.N) (r : Fin 256) (d : Fin 512) (i : Fin 32768) (hi : i.val = t.val * 256 + r.val) (w : FVec Ideal S1024x512 .bf16) (o : ℕ) (ho : o + 512 ≤ 4096)
    (hw : ∀ (k : Fin 1024) (j : Fin 512), w (ix2 k j) = (iblk m c 2 t : FVec Ideal S1024x4096 .bf16) (ix2 k ⟨o + j.val, by omega⟩))
    (g : FVec Ideal S1x128 .f32) (G : FVec Ideal S64 .f32) (hG : ∀ l : Fin 128, g (ix2 0 l) = G (ix1 ⟨l.val % 64, Nat.mod_lt _ (by decide)⟩))
    (y : FVec Ideal Cert.InProjRefIdeal.S4x8192x512 .f32) (hy : ∀ (b : Fin 4) (s : Fin 8192) (d : Fin 512), y (ix3 b s d) = P m c (ix3 b s ⟨o + d.val, by omega⟩))
    (hP : ∀ (b : Fin 4) (s : Fin 8192) (d : Fin 4096), Real' (P m c (ix3 b s d))) :
    k0_pay17 (F := Ideal) (k0_pay10 (iblk m c 6 t)) (k0_pay11 (iblk m c 7 t)) (k0_pay12 (iblk m c 8 t)) (k0_pay13 (k0_pay2 (iblk m c 0 t) (iblk m c 1 t)) w) (k0_pay14 g)
      (k0_pay15 (k0_pay2 (iblk m c 0 t) (iblk m c 1 t)) (iblk m c 5 t) w) (k0_pay16 (k0_pay2 (iblk m c 0 t) (iblk m c 1 t)) w) (ix2 r d)
    = Cert.InProjRefIdeal.Staged.roped y G Cert.InProjRefIdeal.Staged.positions (ix4 ⟨i.val / 8192, by omega⟩ ⟨d.val / 64, by omega⟩ ⟨i.val % 8192, Nat.mod_lt _ (by decide)⟩ ⟨d.val % 64, Nat.mod_lt _ (by decide)⟩) := by
  have hp : i.val % 8192 = t.val % 32 * 256 + r.val := by omega
  rw [Cert.InProjRefIdeal.Staged.roped_entry]
  refine (Block.rotated _ _ _ _ g _ w r d (fun e => y (ix3 ⟨i.val / 8192, by omega⟩ ⟨i.val % 8192, Nat.mod_lt _ (by decide)⟩ e)) (fun e => G (ix1 e)) (i.val % 8192)
    (fun e => (proj_col m c t r e i hi w o ho hw).trans (hy _ _ _).symm) (fun e => by rw [hy]; exact hP _ _ _) (reads5 m c t) hG
    (fun l => reads6 m c t r l ⟨i.val % 8192, Nat.mod_lt _ (by decide)⟩ hp) (fun l => reads7 m c t r l ⟨i.val % 8192, Nat.mod_lt _ (by decide)⟩ hp)
    (fun l => reads8 m c t r l ⟨i.val % 8192, Nat.mod_lt _ (by decide)⟩ hp)).trans rfl

set_option maxHeartbeats 2000000 in
/-- The gate and up columns after the run. -/
theorem final9 (c : Dev nD) : (dats m 0 c).arrAt 9 (cfgs 0).N = Cert.InProjRefIdeal.Staged.gu (Cert.InProjRefIdeal.Staged.cols2048 (P m c)) (Cert.InProjRefIdeal.Staged.cols3072 (P m c)) (Cert.InProjRefIdeal.Staged.cols0 (P m c)) := by
  refine (dats m 0 c).arrAt_eq_of_covers 9 _ (by decide +kernel) fun t _ y => ?_
  blk_simp
  rw [after0_9]
  have ht : t.val < 128 := t.isLt
  obtain ⟨r, hr⟩ : ∃ r : Fin 256, r.val = (y 0).val := ⟨y 0, rfl⟩
  obtain ⟨n, hn⟩ : ∃ n : Fin 2560, n.val = (y 1).val := ⟨y 1, rfl⟩
  obtain ⟨i, hi⟩ : ∃ i : Fin 32768, i.val = t.val * 256 + r.val := ⟨⟨t.val * 256 + r.val, by omega⟩, rfl⟩
  obtain ⟨d, hd⟩ : ∃ d : Fin 4096, d.val = if n.val < 2048 then n.val + 2048 else n.val - 2048 := ⟨⟨if n.val < 2048 then n.val + 2048 else n.val - 2048, by split_ifs <;> omega⟩, rfl⟩
  have hy : y = (ix2 r n : S256x2560.Idx) := by
    funext a
    fin_cases a
    · exact Fin.ext hr.symm
    · exact Fin.ext hn.symm
  have e0 : (((cfg0.win 9).blk t).view.emb y 0).val = t.val * 256 + (y 0).val := by blk_simp [idx t]
  have e1 : (((cfg0.win 9).blk t).view.emb y 1).val = (y 1).val := by blk_simp [idx t]
  have he : (win0_9.blk t).view.emb y = (ix2 i n : S32768x2560.Idx) := by
    funext a
    fin_cases a
    · exact Fin.ext (e0.trans (show t.val * 256 + (y 0).val = i.val by omega))
    · exact Fin.ext (e1.trans (show (y 1).val = n.val by omega))
  refine Eq.trans ?_ (congrArg (Cert.InProjRefIdeal.Staged.gu _ _ _) he.symm)
  refine (congrArg (out0_9 _ _ _ _ _ _ _ _ _) hy).trans ?_
  refine (out9_entry _ _ _ _ _ _ _ _ _ r n d hd).trans ?_
  rw [Cert.InProjRefIdeal.Staged.gu_entry _ i n d hd]
  unfold P
  rw [Cert.InProjRefIdeal.Staged.proj_entry]
  refine Finset.sum_congr rfl fun k _ => ?_
  rw [Block.normed, reads1 m c t k, reads2 m c t k]
  simp only [reads0 m c t r _ i hi]

set_option maxHeartbeats 2000000 in
/-- The queries after the run. -/
theorem final10 (c : Dev nD) (hP : ∀ (b : Fin 4) (s : Fin 8192) (d : Fin 4096), Real' (P m c (ix3 b s d))) : (dats m 0 c).arrAt 10 (cfgs 0).N = Cert.InProjRefIdeal.Staged.flat (Cert.InProjRefIdeal.Staged.roped (Cert.InProjRefIdeal.Staged.cols512 (P m c)) (m ((c : Thread nD τ).loc main_arg3)) Cert.InProjRefIdeal.Staged.positions) := by
  refine (dats m 0 c).arrAt_eq_of_covers 10 _ (by decide +kernel) fun t _ y => ?_
  blk_simp
  rw [after0_10]
  have ht : t.val < 128 := t.isLt
  obtain ⟨r, hr⟩ : ∃ r : Fin 256, r.val = (y 1).val := ⟨y 1, rfl⟩
  obtain ⟨d, hd⟩ : ∃ d : Fin 512, d.val = (y 2).val := ⟨y 2, rfl⟩
  obtain ⟨i, hi⟩ : ∃ i : Fin 32768, i.val = t.val * 256 + r.val := ⟨⟨t.val * 256 + r.val, by omega⟩, rfl⟩
  have y0 : (y 0).val = 0 := Nat.lt_one_iff.mp (y 0).isLt
  have hy : y = (ix3 0 r d : S1x256x512.Idx) := by
    funext a
    fin_cases a
    · exact Fin.ext y0
    · exact Fin.ext hr.symm
    · exact Fin.ext hd.symm
  have e0 : (((cfg0.win 10).blk t).view.emb y 0).val = t.val / 32 := by blk_simp [idx t]
  have e1 : (((cfg0.win 10).blk t).view.emb y 1).val = t.val % 32 * 256 + (y 1).val := by blk_simp [idx t]
  have e2 : (((cfg0.win 10).blk t).view.emb y 2).val = (y 2).val := by blk_simp [idx t]
  have he : (win0_10.blk t).view.emb y = (ix3 ⟨i.val / 8192, by omega⟩ ⟨i.val % 8192, by omega⟩ d : S4x8192x512.Idx) := by
    funext a
    fin_cases a
    · exact Fin.ext (e0.trans (show t.val / 32 = i.val / 8192 by omega))
    · exact Fin.ext (e1.trans (show t.val % 32 * 256 + (y 1).val = i.val % 8192 by omega))
    · exact Fin.ext (e2.trans (show (y 2).val = d.val by omega))
  refine Eq.trans ?_ (congrArg (Cert.InProjRefIdeal.Staged.flat _) he.symm)
  refine (congrArg (out0_10 _ _ _ _ _ _ _ _ _) hy).trans ?_
  refine (out10_entry _ _ _ _ _ _ _ _ _ r d).trans ?_
  rw [Cert.InProjRefIdeal.Staged.flat_entry]
  exact rot_col m c t r d i hi _ 512 (by decide) (ld14 _) _ _ (reads3 m c t) _ (Cert.InProjRefIdeal.Staged.cols512_entry _) hP

set_option maxHeartbeats 2000000 in
/-- The keys after the run. -/
theorem final11 (c : Dev nD) (hP : ∀ (b : Fin 4) (s : Fin 8192) (d : Fin 4096), Real' (P m c (ix3 b s d))) : (dats m 0 c).arrAt 11 (cfgs 0).N = Cert.InProjRefIdeal.Staged.kflat (Cert.InProjRefIdeal.Staged.roped (Cert.InProjRefIdeal.Staged.cols1024 (P m c)) (m ((c : Thread nD τ).loc main_arg4)) Cert.InProjRefIdeal.Staged.positions) := by
  refine (dats m 0 c).arrAt_eq_of_covers 11 _ (by decide +kernel) fun t _ y => ?_
  blk_simp
  rw [after0_11]
  have ht : t.val < 128 := t.isLt
  obtain ⟨r, hr⟩ : ∃ r : Fin 256, r.val = (y 1).val := ⟨y 1, rfl⟩
  obtain ⟨d, hd⟩ : ∃ d : Fin 512, d.val = (y 2).val := ⟨y 2, rfl⟩
  obtain ⟨i, hi⟩ : ∃ i : Fin 32768, i.val = t.val * 256 + r.val := ⟨⟨t.val * 256 + r.val, by omega⟩, rfl⟩
  have y0 : (y 0).val = 0 := Nat.lt_one_iff.mp (y 0).isLt
  have hy : y = (ix3 0 r d : S1x256x512.Idx) := by
    funext a
    fin_cases a
    · exact Fin.ext y0
    · exact Fin.ext hr.symm
    · exact Fin.ext hd.symm
  have e0 : (((cfg0.win 11).blk t).view.emb y 0).val = t.val / 32 := by blk_simp [idx t]
  have e1 : (((cfg0.win 11).blk t).view.emb y 1).val = t.val % 32 * 256 + (y 1).val := by blk_simp [idx t]
  have e2 : (((cfg0.win 11).blk t).view.emb y 2).val = (y 2).val := by blk_simp [idx t]
  have he : (win0_11.blk t).view.emb y = (ix3 ⟨i.val / 8192, by omega⟩ ⟨i.val % 8192, by omega⟩ d : S4x8192x512.Idx) := by
    funext a
    fin_cases a
    · exact Fin.ext (e0.trans (show t.val / 32 = i.val / 8192 by omega))
    · exact Fin.ext (e1.trans (show t.val % 32 * 256 + (y 1).val = i.val % 8192 by omega))
    · exact Fin.ext (e2.trans (show (y 2).val = d.val by omega))
  refine Eq.trans ?_ (congrArg (Cert.InProjRefIdeal.Staged.kflat _) he.symm)
  refine (congrArg (out0_11 _ _ _ _ _ _ _ _ _) hy).trans ?_
  refine (out11_entry _ _ _ _ _ _ _ _ _ r d).trans ?_
  rw [Cert.InProjRefIdeal.Staged.kflat_entry]
  exact rot_col m c t r d i hi _ 1024 (by decide) (ld17 _) _ _ (reads4 m c t) _ (Cert.InProjRefIdeal.Staged.cols1024_entry _) hP

set_option maxHeartbeats 2000000 in
/-- The values after the run, columns by rows. -/
theorem final12 (c : Dev nD) : (dats m 0 c).arrAt 12 (cfgs 0).N = Cert.InProjRefIdeal.Staged.vt (Cert.InProjRefIdeal.Staged.cols1536 (P m c)) := by
  refine (dats m 0 c).arrAt_eq_of_covers 12 _ (by decide +kernel) fun t _ y => ?_
  blk_simp
  rw [after0_12]
  have ht : t.val < 128 := t.isLt
  obtain ⟨r, hr⟩ : ∃ r : Fin 256, r.val = (y 2).val := ⟨y 2, rfl⟩
  obtain ⟨d, hd⟩ : ∃ d : Fin 512, d.val = (y 1).val := ⟨y 1, rfl⟩
  obtain ⟨i, hi⟩ : ∃ i : Fin 32768, i.val = t.val * 256 + r.val := ⟨⟨t.val * 256 + r.val, by omega⟩, rfl⟩
  have y0 : (y 0).val = 0 := Nat.lt_one_iff.mp (y 0).isLt
  have hy : y = (ix3 0 d r : S1x512x256.Idx) := by
    funext a
    fin_cases a
    · exact Fin.ext y0
    · exact Fin.ext hd.symm
    · exact Fin.ext hr.symm
  have e0 : (((cfg0.win 12).blk t).view.emb y 0).val = t.val / 32 := by blk_simp [idx t]
  have e1 : (((cfg0.win 12).blk t).view.emb y 1).val = (y 1).val := by blk_simp [idx t]
  have e2 : (((cfg0.win 12).blk t).view.emb y 2).val = t.val % 32 * 256 + (y 2).val := by blk_simp [idx t]
  have he : (win0_12.blk t).view.emb y = (ix3 ⟨i.val / 8192, by omega⟩ d ⟨i.val % 8192, by omega⟩ : S4x512x8192.Idx) := by
    funext a
    fin_cases a
    · exact Fin.ext (e0.trans (show t.val / 32 = i.val / 8192 by omega))
    · exact Fin.ext (e1.trans (show (y 1).val = d.val by omega))
    · exact Fin.ext (e2.trans (show t.val % 32 * 256 + (y 2).val = i.val % 8192 by omega))
  refine Eq.trans ?_ (congrArg (Cert.InProjRefIdeal.Staged.vt _) he.symm)
  refine (congrArg (out0_12 _ _ _ _ _ _ _ _ _) hy).trans ?_
  refine (out12_entry _ _ _ _ _ _ _ _ _ r d).trans ?_
  rw [Cert.InProjRefIdeal.Staged.vt_entry, Cert.InProjRefIdeal.Staged.cols1536_entry]
  exact proj_col m c t r d i hi _ 1536 (by decide) (ld19 _)

set_option maxHeartbeats 2000000 in
/-- The means of the keys over each chunk of 256 positions after the run. -/
theorem final13 (c : Dev nD) (hP : ∀ (b : Fin 4) (s : Fin 8192) (d : Fin 4096), Real' (P m c (ix3 b s d))) : (dats m 0 c).arrAt 13 (cfgs 0).N = Cert.InProjRefIdeal.Staged.kmean (Cert.InProjRefIdeal.Staged.roped (Cert.InProjRefIdeal.Staged.cols1024 (P m c)) (m ((c : Thread nD τ).loc main_arg4)) Cert.InProjRefIdeal.Staged.positions) := by
  refine (dats m 0 c).arrAt_eq_of_covers 13 _ (by decide +kernel) fun t _ y => ?_
  blk_simp
  rw [after0_13]
  have ht : t.val < 128 := t.isLt
  obtain ⟨d, hd⟩ : ∃ d : Fin 512, d.val = (y 3).val := ⟨y 3, rfl⟩
  have y0 : (y 0).val = 0 := Nat.lt_one_iff.mp (y 0).isLt
  have y1 : (y 1).val = 0 := Nat.lt_one_iff.mp (y 1).isLt
  have y2 : (y 2).val = 0 := Nat.lt_one_iff.mp (y 2).isLt
  have hy : y = (ix4 0 0 0 d : S1x1x1x512.Idx) := by
    funext a
    fin_cases a
    · exact Fin.ext y0
    · exact Fin.ext y1
    · exact Fin.ext y2
    · exact Fin.ext hd.symm
  have e0 : (((cfg0.win 13).blk t).view.emb y 0).val = t.val / 32 := by blk_simp [idx t]
  have e1 : (((cfg0.win 13).blk t).view.emb y 1).val = t.val % 32 := by blk_simp [idx t]
  have e2 : (((cfg0.win 13).blk t).view.emb y 2).val = 0 := by blk_simp [idx t]
  have e3 : (((cfg0.win 13).blk t).view.emb y 3).val = (y 3).val := by blk_simp [idx t]
  have he : (win0_13.blk t).view.emb y = (ix4 ⟨t.val / 32, by omega⟩ ⟨t.val % 32, by omega⟩ 0 d : S4x32x1x512.Idx) := by
    funext a
    fin_cases a
    · exact Fin.ext (e0.trans (show t.val / 32 = t.val / 32 by omega))
    · exact Fin.ext (e1.trans (show t.val % 32 = t.val % 32 by omega))
    · exact Fin.ext (e2.trans (show 0 = 0 by omega))
    · exact Fin.ext (e3.trans (show (y 3).val = d.val by omega))
  refine Eq.trans ?_ (congrArg (Cert.InProjRefIdeal.Staged.kmean _) he.symm)
  refine (congrArg (out0_13 _ _ _ _ _ _ _ _ _) hy).trans ?_
  refine (out13_entry _ _ _ _ _ _ _ _ _ d).trans ?_
  rw [Cert.InProjRefIdeal.Staged.kmean_entry]
  refine congrArg (Ideal.div · _) (Finset.sum_congr rfl fun r _ => ?_)
  obtain ⟨i, hi⟩ : ∃ i : Fin 32768, i.val = t.val * 256 + r.val := ⟨⟨t.val * 256 + r.val, by omega⟩, rfl⟩
  refine (rot_col m c t r d i hi _ 1024 (by decide) (ld17 _) _ _ (reads4 m c t) _ (Cert.InProjRefIdeal.Staged.cols1024_entry _) hP).trans ?_
  have b : i.val / 8192 = t.val / 32 := by omega
  have p : i.val % 8192 = t.val % 32 * 256 + r.val := by omega
  simp only [b, p]

end Cert.InProjIdeal.Tokens
end
-- ==== Proof.InProj.Result.lean ====
module

public import proofs.«01_k».proof.Proof.Gen.InProjIdeal.Points
public import proofs.«01_k».proof.Proof.Gen.InProjIdeal.Frame
public import proofs.«01_k».proof.Proof.InProj.Tile
public import proofs.«01_k».proof.Proof.InProj.Reads
public import proofs.«01_k».proof.Proof.InProj.Entry
public import proofs.«01_k».proof.Proof.InProj.Finite
public import proofs.«01_k».proof.Proof.InProj.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Tokens
open Cert.Rotation Cert.InProjIdeal Cert.InProjIdeal.Gen
variable (m : (ℓ : Loc nD τ sig) → Buf (Elt Ideal) ℓ)

/-- The projection's entries are real numbers under the precondition. -/
theorem P_real_of_pre [hPre : Cert.Pre_finite.Facts] (h : Cert.Pre_InProjIdeal_finite m) (c : Dev nD) (b : Fin 4) (s : Fin 8192) (d : Fin 4096) : Real' (P m c (ix3 b s d)) :=
  P_real m c (Finite.of_pre _ _ _ _ _ (h c)).1 (Finite.of_pre _ _ _ _ _ (h c)).2 b s d

set_option maxHeartbeats 2000000 in
/-- Kernel and reference return equal arrays when the gain and the matrix hold real numbers. -/
theorem result [hPre : Cert.Pre_finite.Facts] : Cert.algebraic_InProjIdeal_InProjRefIdeal_pre_finite := by
  pair_intro
  · run_from Cert.InProjIdeal.Gen.run_main m g
    · exact V_main_arg0 m c
    · exact V_main_arg1 m c
    · exact V_main_arg2 m c
    · exact V_main_arg3 m c
    · exact V_main_arg4 m c
  · run_from Cert.InProjRefIdeal.Staged.run m' g'
    · exact (final9 m c).symm
    · exact (final10 m c (P_real_of_pre m hpre c)).symm
    · exact (final11 m c (P_real_of_pre m hpre c)).symm
    · exact (final12 m c).symm
    · exact (final13 m c (P_real_of_pre m hpre c)).symm

end Cert.InProjIdeal.Tokens
end
-- ==== Proof.Merge.Route.lean ====
module

public import Idealize.ShloMosaic.Lib.Pipeline.ValueKit
public import Idealize.ShloMosaic.Lib.Pointwise
public import Idealize.ShloMosaic.Lib.SortFacts
public import proofs.«01_k».proof.Proof.InProj.Rotation

@[expose] public section

set_option maxRecDepth 16384

noncomputable section

open Idealize.ShloMosaic
open Cert.Rotation (Real')

namespace Cert.Routing

/-- Position `i` holds the greatest entry of `f`; of equal entries it is the first. -/
def First {n : ℕ} (f : Fin n → EReal) (i : Fin n) : Prop := ∀ p, p ≠ i → f p < f i ∨ (f p = f i ∧ i < p)

/-- Position `b` holds the greatest entry of `f` apart from position `a`; of equal entries it is the first. -/
def Second {n : ℕ} (f : Fin n → EReal) (a b : Fin n) : Prop := b ≠ a ∧ ∀ p, p ≠ a → p ≠ b → f p < f b ∨ (f p = f b ∧ b < p)

theorem First.le {n : ℕ} {f : Fin n → EReal} {i : Fin n} (h : First f i) (p : Fin n) : f p ≤ f i := by
  by_cases e : p = i
  · rw [e]
  · exact (h p e).elim le_of_lt fun q => q.1.le

/-- The word of minus infinity. -/
theorem ninf : Ideal.ofBits .f32 0xFF800000#32 = (⊥ : EReal) := by simp [Ideal.ofBits, Ideal.ieee]

/-- The word of one. -/
theorem one : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h]; norm_num

/-- The word of zero. -/
theorem zero : Ideal.ofBits .f32 0x00000000#32 = (0 : EReal) := by simp [Ideal.ofBits, Ideal.ieee]

/-- A greatest entry is the maximum over all entries. -/
theorem fold_max {n : ℕ} (f : Fin n → EReal) (i : Fin n) (h : ∀ p, f p ≤ f i) : Finset.univ.fold max (⊥ : EReal) f = f i :=
  le_antisymm (Finset.fold_max_le _ |>.mpr ⟨bot_le, fun x _ => h x⟩) (Finset.le_fold_max _ |>.mpr (Or.inr ⟨i, Finset.mem_univ _, le_rfl⟩))

/-- The signed minimum of small numbers is their minimum. -/
theorem minsi_ofNat (a b : ℕ) (ha : a ≤ 2147483647) (hb : b ≤ 2147483647) :
    IntOp.minsi (BitVec.ofNat 32 a) (BitVec.ofNat 32 b) = BitVec.ofNat 32 (min a b) := by
  have e : (BitVec.ofNat 32 a).slt (BitVec.ofNat 32 b) = decide (a < b) := by
    have h1 : (BitVec.ofNat 32 a).toInt = a := by rw [BitVec.toInt_ofNat']; simp only [Int.bmod]; omega
    have h2 : (BitVec.ofNat 32 b).toInt = b := by rw [BitVec.toInt_ofNat']; simp only [Int.bmod]; omega
    rw [BitVec.slt_eq_decide, h1, h2]; simp
  unfold IntOp.minsi
  rw [e]
  by_cases h : a < b
  · simp [h, Nat.min_eq_left h.le]
  · simp [h, Nat.min_eq_right (Nat.le_of_not_lt h)]

/-- The least of the chosen lanes. -/
def least (c : Fin 128 → BitVec 1) : BitVec 32 :=
  Finset.univ.fold IntOp.minsi 2147483647#32 fun x : Fin 128 => Scalar.select (c x) (BitVec.ofNat 32 x.val) 128#32

/-- A signed minimum of small numbers, over any of the lanes. -/
theorem fold_minsi (n : Fin 128 → ℕ) (hn : ∀ x, n x ≤ 128) (s : Finset (Fin 128)) :
    s.fold IntOp.minsi 2147483647#32 (fun x => BitVec.ofNat 32 (n x)) = BitVec.ofNat 32 (s.fold min 2147483647 n) ∧ s.fold min 2147483647 n ≤ 2147483647 := by
  induction s using Finset.induction_on with
  | empty => simp
  | insert x s hx ih =>
    rw [Finset.fold_insert hx, Finset.fold_insert hx, ih.1, minsi_ofNat _ _ ((hn x).trans (by norm_num)) ih.2]
    exact ⟨rfl, (min_le_right _ _).trans ih.2⟩

/-- The least of the chosen lanes is the chosen lane below which no lane is chosen. -/
theorem least_eq (c : Fin 128 → BitVec 1) (i : Fin 128) (hi : c i = 1) (h : ∀ x, c x = 1 → i ≤ x) : least c = BitVec.ofNat 32 i.val := by
  have e : (fun x : Fin 128 => Scalar.select (c x) (BitVec.ofNat 32 x.val) 128#32) = fun x => BitVec.ofNat 32 (if c x = 1 then x.val else 128) := by
    funext x; unfold Scalar.select; by_cases hc : c x = 1
    · rw [if_pos hc, if_pos hc]
    · rw [if_neg hc, if_neg hc]
  unfold least
  rw [e, (fold_minsi (fun x => if c x = 1 then x.val else 128) (fun x => by
    by_cases hc : c x = 1
    · rw [if_pos hc]; exact x.isLt.le
    · rw [if_neg hc]) _).1]
  congr 1
  refine le_antisymm (Finset.fold_min_le _ |>.mpr (Or.inr ⟨i, Finset.mem_univ _, by simp [hi]⟩)) (Finset.le_fold_min _ |>.mpr ⟨by have := i.isLt; omega, fun x _ => ?_⟩)
  by_cases hc : c x = 1
  · simp only [hc, if_true]; exact h x hc
  · simp only [hc, if_false]; have := i.isLt; omega

/-- Lanes 32 to 35 hold the groups. -/
def isGroup (k : Fin 128) : BitVec 1 :=
  IntOp.andi (IntOp.cmpi .sge (BitVec.ofNat 32 k.val) 32#32) (IntOp.cmpi .slt (BitVec.ofNat 32 k.val) 36#32)

theorem isGroup_iff : ∀ k : Fin 128, isGroup k = 1 ↔ 32 ≤ k.val ∧ k.val < 36 := by decide +kernel

/-- Lane `k` holds an expert of the group in lane `ig`. -/
def inGroup (ig : BitVec 32) (k : Fin 128) : BitVec 1 :=
  IntOp.andi (IntOp.cmpi .slt (BitVec.ofNat 32 k.val) 32#32) (IntOp.cmpi .eq (IntOp.shrui .vector (BitVec.ofNat 32 k.val) 3#32) (IntOp.subi ig 32#32))

theorem inGroup_iff : ∀ (g : Fin 4) (k : Fin 128), inGroup (BitVec.ofNat 32 (32 + g.val)) k = 1 ↔ k.val < 32 ∧ k.val / 8 = g.val := by decide +kernel

theorem eq_lane : ∀ k i : Fin 128, IntOp.cmpi .eq (BitVec.ofNat 32 k.val) (BitVec.ofNat 32 i.val) = 1 ↔ k = i := by
  intro k i
  unfold IntOp.cmpi
  have : (BitVec.ofNat 32 k.val == BitVec.ofNat 32 i.val) = decide (k = i) := by
    rw [beq_eq_decide]
    refine decide_eq_decide.mpr ⟨fun h => Fin.ext ?_, fun h => by rw [h]⟩
    have h' := congrArg BitVec.toNat h
    simp only [BitVec.toNat_ofNat] at h'
    omega
  show BitVec.ofBool (BitVec.ofNat 32 k.val == BitVec.ofNat 32 i.val) = 1 ↔ _
  rw [this]
  by_cases h : k = i <;> simp [h]

theorem ofBool_one (b : Bool) : BitVec.ofBool b = 1 ↔ b = true := by cases b <;> simp

theorem andi_one : ∀ a b : BitVec 1, IntOp.andi a b = 1 ↔ a = 1 ∧ b = 1 := by decide

/-- The groups' logits, minus infinity in the other lanes. -/
def gLogit (L : Fin 128 → EReal) (k : Fin 128) : EReal := Scalar.select (isGroup k) (L k) (Ideal.ofBits .f32 0xFF800000#32)

/-- The lanes' softmax over the groups. -/
def gProb (L : Fin 128 → EReal) (k : Fin 128) : EReal :=
  Ideal.div (Ideal.exp (gLogit L k - Finset.univ.fold max (Ideal.ofBits .f32 0xFF800000#32) (gLogit L)))
    (∑ x : Fin 128, Ideal.exp (gLogit L x - Finset.univ.fold max (Ideal.ofBits .f32 0xFF800000#32) (gLogit L)))

/-- The greatest entry over the lanes. -/
def top (f : Fin 128 → EReal) : EReal := Finset.univ.fold max (Ideal.ofBits .f32 0xFF800000#32) f

/-- The lane of the chosen group. -/
def gLane (P : Fin 128 → EReal) (M : EReal) : BitVec 32 := least fun x => IntOp.andi (isGroup x) (BitVec.ofBool (decide (P x = M)))

/-- The logits of the experts of one group, minus infinity in the other lanes. -/
def eLogit (L : Fin 128 → EReal) (ig : BitVec 32) (k : Fin 128) : EReal := Scalar.select (inGroup ig k) (L k) (Ideal.ofBits .f32 0xFF800000#32)

/-- The first lane that holds the greatest entry. -/
def lane (f : Fin 128 → EReal) : BitVec 32 := least fun x => BitVec.ofBool (decide (f x = top f))

/-- The entries with one lane taken away. -/
def without (f : Fin 128 → EReal) (i : BitVec 32) (k : Fin 128) : EReal :=
  Scalar.select (IntOp.cmpi .eq (BitVec.ofNat 32 k.val) i) (Ideal.ofBits .f32 0xFF800000#32) (f k)

/-- The mixing weights of one token, lane by lane. -/
def weights (gp : EReal) (f : Fin 128 → EReal) (k : Fin 128) : EReal :=
  Scalar.select (IntOp.cmpi .eq (BitVec.ofNat 32 k.val) (lane f))
    (Ideal.div (Ideal.ofBits .f32 0x3F800000#32) (Ideal.ofBits .f32 0x3F800000#32 + Ideal.exp (top (without f (lane f)) - top f)) * gp)
    (Scalar.select (IntOp.cmpi .eq (BitVec.ofNat 32 k.val) (lane (without f (lane f))))
      (Ideal.div (Ideal.exp (top (without f (lane f)) - top f)) (Ideal.ofBits .f32 0x3F800000#32 + Ideal.exp (top (without f (lane f)) - top f)) * gp)
      (Ideal.ofBits .f32 0x00000000#32))

/-- A softmax over four groups. -/
def soft (l : Fin 4 → EReal) (g : Fin 4) : EReal :=
  Ideal.div (Ideal.exp (l g - Finset.univ.fold max (⊥ : EReal) l)) (∑ x : Fin 4, Ideal.exp (l x - Finset.univ.fold max (⊥ : EReal) l))

/-- The lane of a group. -/
def gl (g : Fin 4) : Fin 128 := ⟨32 + g.val, by omega⟩
/-- The lane of an expert of a group. -/
def el (g : Fin 4) (a : Fin 8) : Fin 128 := ⟨g.val * 8 + a.val, by omega⟩

theorem sel_pos {c : BitVec 1} (h : c = 1) {α : Type} (a b : α) : Scalar.select c a b = a := by simp [Scalar.select, h]
theorem sel_neg {c : BitVec 1} (h : ¬ c = 1) {α : Type} (a b : α) : Scalar.select c a b = b := by unfold Scalar.select; rw [if_neg h]

theorem gLogit_gl (L : Fin 128 → EReal) (g : Fin 4) : gLogit L (gl g) = L (gl g) :=
  sel_pos ((isGroup_iff _).mpr ⟨by simp only [gl]; omega, by simp only [gl]; omega⟩) _ _

/-- A lane that holds no group. -/
theorem gLogit_other (L : Fin 128 → EReal) (k : Fin 128) (h : ∀ g, k ≠ gl g) : gLogit L k = ⊥ := by
  unfold gLogit
  rw [sel_neg, ninf]
  intro hc
  have := (isGroup_iff k).mp hc
  exact h ⟨k.val - 32, by omega⟩ (Fin.ext (by simp only [gl]; omega))

/-- The maximum over the lanes is the maximum over the groups. -/
theorem gMax (L : Fin 128 → EReal) (l : Fin 4 → EReal) (h : ∀ g, L (gl g) = l g) :
    Finset.univ.fold max (Ideal.ofBits .f32 0xFF800000#32) (gLogit L) = Finset.univ.fold max (⊥ : EReal) l := by
  rw [ninf]
  refine le_antisymm (Finset.fold_max_le _ |>.mpr ⟨bot_le, fun x _ => ?_⟩) (Finset.fold_max_le _ |>.mpr ⟨bot_le, fun g _ => ?_⟩)
  · by_cases hx : ∃ g, x = gl g
    · obtain ⟨g, rfl⟩ := hx
      rw [gLogit_gl, h]
      exact Finset.le_fold_max _ |>.mpr (Or.inr ⟨g, Finset.mem_univ _, le_rfl⟩)
    · rw [gLogit_other L x fun g e => hx ⟨g, e⟩]; exact bot_le
  · exact Finset.le_fold_max _ |>.mpr (Or.inr ⟨gl g, Finset.mem_univ _, by rw [gLogit_gl, h]⟩)

theorem exp_bot_sub (x : EReal) : Ideal.exp (⊥ - x) = 0 := by rw [EReal.bot_sub]; rfl

/-- Exponentials are not negative. -/
theorem exp_nonneg (x : EReal) : 0 ≤ Ideal.exp x := by
  induction x using EReal.rec with
  | bot => exact le_rfl
  | top => exact le_top
  | coe r => exact EReal.coe_nonneg.mpr (Real.exp_pos r).le

/-- The lanes' sum of exponentials is the groups'. -/
theorem gSum (L : Fin 128 → EReal) (l : Fin 4 → EReal) (h : ∀ g, L (gl g) = l g) (M : EReal) :
    ∑ x : Fin 128, Ideal.exp (gLogit L x - M) = ∑ g : Fin 4, Ideal.exp (l g - M) := by
  refine (Finset.sum_of_injOn gl (fun a _ b _ e => ?_) (fun _ _ => Finset.mem_coe.mpr (Finset.mem_univ _)) (fun x _ hx => ?_) fun g _ => ?_).symm
  · have := congrArg Fin.val e; simp only [gl] at this; exact Fin.ext (by omega)
  · rw [gLogit_other L x fun g e => hx ⟨g, Finset.mem_coe.mpr (Finset.mem_univ _), e.symm⟩, exp_bot_sub]
  · rw [gLogit_gl, h]

theorem gProb_gl (L : Fin 128 → EReal) (l : Fin 4 → EReal) (h : ∀ g, L (gl g) = l g) (g : Fin 4) : gProb L (gl g) = soft l g := by
  unfold gProb soft
  rw [gMax L l h, gSum L l h, gLogit_gl, h]

/-- Dividing by a number that is not negative keeps the order. -/
theorem div_zero_le (e s : EReal) (he : 0 ≤ e) (hs : 0 ≤ s) (hes : e ≤ s) : Ideal.div 0 s ≤ Ideal.div e s := by
  unfold Ideal.div
  by_cases h : s = 0
  · rw [if_pos h, if_pos h, le_antisymm (h ▸ hes) he]
  · rw [if_neg h, if_neg h, zero_mul]
    exact mul_nonneg he (EReal.inv_nonneg_of_nonneg hs)

/-- No lane outside the groups exceeds a group's. -/
theorem gProb_other (L : Fin 128 → EReal) (l : Fin 4 → EReal) (h : ∀ g, L (gl g) = l g) (k : Fin 128) (hk : ∀ g, k ≠ gl g) (g : Fin 4) :
    gProb L k ≤ soft l g := by
  unfold gProb soft
  rw [gMax L l h, gSum L l h, gLogit_other L k hk, exp_bot_sub]
  exact div_zero_le _ _ (exp_nonneg _) (Finset.sum_nonneg fun _ _ => exp_nonneg _)
    (Finset.single_le_sum (f := fun g => Ideal.exp (l g - Finset.univ.fold max (⊥ : EReal) l)) (fun _ _ => exp_nonneg _) (Finset.mem_univ g))

/-- The greatest lane probability is the chosen group's. -/
theorem gTop (L : Fin 128 → EReal) (l : Fin 4 → EReal) (h : ∀ g, L (gl g) = l g) (g : Fin 4) (hg : First (soft l) g) : top (gProb L) = soft l g := by
  unfold top
  rw [ninf, fold_max (gProb L) (gl g), gProb_gl L l h]
  intro p
  rw [gProb_gl L l h]
  by_cases hx : ∃ g, p = gl g
  · obtain ⟨q, rfl⟩ := hx
    rw [gProb_gl L l h]; exact hg.le q
  · exact gProb_other L l h p (fun g e => hx ⟨g, e⟩) g

/-- The chosen lane is the chosen group's. -/
theorem gLane_eq (L : Fin 128 → EReal) (l : Fin 4 → EReal) (h : ∀ g, L (gl g) = l g) (g : Fin 4) (hg : First (soft l) g) :
    gLane (gProb L) (top (gProb L)) = BitVec.ofNat 32 (32 + g.val) := by
  rw [gTop L l h g hg]
  refine least_eq _ (gl g) ?_ fun x hx => ?_
  · rw [andi_one, ofBool_one, isGroup_iff]
    exact ⟨⟨by simp only [gl]; omega, by simp only [gl]; omega⟩, decide_eq_true (gProb_gl L l h g)⟩
  · rw [andi_one, ofBool_one, isGroup_iff, decide_eq_true_eq] at hx
    obtain ⟨⟨h1, h2⟩, h3⟩ := hx
    obtain ⟨q, rfl⟩ : ∃ q, x = gl q := ⟨⟨x.val - 32, by omega⟩, Fin.ext (by simp only [gl]; omega)⟩
    rw [gProb_gl L l h] at h3
    by_cases e : q = g
    · rw [e]
    · rcases hg q e with h4 | ⟨_, h4⟩
      · exact absurd h3 (ne_of_lt h4)
      · exact Fin.le_def.mpr (by have := Fin.lt_def.mp h4; simp only [gl]; omega)

theorem eLogit_el (L : Fin 128 → EReal) (g : Fin 4) (a : Fin 8) : eLogit L (BitVec.ofNat 32 (32 + g.val)) (el g a) = L (el g a) :=
  sel_pos ((inGroup_iff _ _).mpr ⟨by simp only [el]; omega, by simp only [el]; omega⟩) _ _

theorem eLogit_other (L : Fin 128 → EReal) (g : Fin 4) (k : Fin 128) (h : ∀ a, k ≠ el g a) : eLogit L (BitVec.ofNat 32 (32 + g.val)) k = ⊥ := by
  unfold eLogit
  rw [sel_neg, ninf]
  intro hc
  have := (inGroup_iff g k).mp hc
  exact h ⟨k.val - g.val * 8, by omega⟩ (Fin.ext (by simp only [el]; omega))

theorem el_inj {g : Fin 4} {a b : Fin 8} (h : el g a = el g b) : a = b := by
  have := congrArg Fin.val h; simp only [el] at this; exact Fin.ext (by omega)

theorem el_lt {g : Fin 4} {a b : Fin 8} (h : a < b) : el g a < el g b := by
  have := Fin.lt_def.mp h; exact Fin.lt_def.mpr (by simp only [el]; omega)

/-- The greatest entry and its first lane, where a lane is known that holds it. -/
theorem lane_top (f : Fin 128 → EReal) (i : Fin 128) (h : First f i) : top f = f i ∧ lane f = BitVec.ofNat 32 i.val := by
  have e : top f = f i := by unfold top; rw [ninf]; exact fold_max f i h.le
  refine ⟨e, ?_⟩
  unfold lane
  rw [e]
  refine least_eq _ i (by simp) fun x hx => ?_
  rw [ofBool_one, decide_eq_true_eq] at hx
  by_cases hxi : x = i
  · rw [hxi]
  · rcases h x hxi with h4 | ⟨_, h4⟩
    · exact absurd hx (ne_of_lt h4)
    · exact h4.le

/-- The mixing weights, written with the two chosen experts named. -/
theorem weights_eq (L : Fin 128 → EReal) (g : Fin 4) (gp : EReal) (hr : ∀ a, Real' (L (el g a))) (a b : Fin 8)
    (ha : First (fun x => L (el g x)) a) (hb : Second (fun x => L (el g x)) a b) (k : Fin 128) :
    weights gp (eLogit L (BitVec.ofNat 32 (32 + g.val))) k =
      if k = el g a then Ideal.div 1 (1 + Ideal.exp (L (el g b) - L (el g a))) * gp
      else if k = el g b then Ideal.div (Ideal.exp (L (el g b) - L (el g a))) (1 + Ideal.exp (L (el g b) - L (el g a))) * gp else 0 := by
  have hbot : ∀ x, (⊥ : EReal) < L (el g x) := fun x => by
    obtain ⟨r, hr⟩ := hr x; rw [hr]; exact EReal.bot_lt_coe r
  generalize hf : eLogit L (BitVec.ofNat 32 (32 + g.val)) = f
  have hel : ∀ x, f (el g x) = L (el g x) := fun x => by rw [← hf]; exact eLogit_el L g x
  have hother : ∀ k, (∀ x, k ≠ el g x) → f k = ⊥ := fun k h => by rw [← hf]; exact eLogit_other L g k h
  have h1 : First f (el g a) := fun p hp => by
    by_cases hx : ∃ x, p = el g x
    · obtain ⟨x, rfl⟩ := hx
      rw [hel, hel]
      exact (ha x fun e => hp (by rw [e])).imp id fun q => ⟨q.1, el_lt q.2⟩
    · rw [hother p fun x e => hx ⟨x, e⟩, hel]; exact Or.inl (hbot a)
  obtain ⟨t1, l1⟩ := lane_top f _ h1
  have hw : ∀ k, without f (BitVec.ofNat 32 (el g a).val) k = if k = el g a then ⊥ else f k := fun k => by
    unfold without
    by_cases h : k = el g a
    · rw [sel_pos ((eq_lane _ _).mpr h), if_pos h, ninf]
    · rw [sel_neg (mt (eq_lane _ _).mp h), if_neg h]
  have hba : el g b ≠ el g a := fun e => hb.1 (el_inj e)
  have h2 : First (without f (BitVec.ofNat 32 (el g a).val)) (el g b) := fun p hp => by
    rw [hw, hw, if_neg hba, hel]
    by_cases hpa : p = el g a
    · rw [if_pos hpa]; exact Or.inl (hbot b)
    · rw [if_neg hpa]
      by_cases hx : ∃ x, p = el g x
      · obtain ⟨x, rfl⟩ := hx
        rw [hel]
        exact (hb.2 x (fun e => hpa (by rw [e])) fun e => hp (by rw [e])).imp id fun q => ⟨q.1, el_lt q.2⟩
      · rw [hother p fun x e => hx ⟨x, e⟩]; exact Or.inl (hbot b)
  obtain ⟨t2, l2⟩ := lane_top _ _ h2
  unfold weights
  rw [l1, l2, t1, t2, hw, if_neg hba, hel, hel, one, zero]
  by_cases h : k = el g a
  · rw [sel_pos ((eq_lane _ _).mpr h), if_pos h]
  · rw [sel_neg (mt (eq_lane _ _).mp h), if_neg h]
    by_cases h' : k = el g b
    · rw [sel_pos ((eq_lane _ _).mpr h'), if_pos h']
    · rw [sel_neg (mt (eq_lane _ _).mp h'), if_neg h']

section Sorting
variable {n : ℕ} (f : Fin n → EReal)

/-- One position stands before another when its entry is greater, or equal and it comes first. -/
def Lex (a b : Fin n) : Prop := f b < f a ∨ (f a = f b ∧ a < b)

theorem insert_lex (a : Fin n) (l : List (Fin n)) (ha : ∀ b ∈ l, a < b) (hl : l.Pairwise (Lex f)) :
    (insertBefore (fun x y => decide (f y < f x)) a l).Pairwise (Lex f) := by
  induction l with
  | nil => simp [insertBefore]
  | cons b l ih =>
    obtain ⟨hb, hl'⟩ := List.pairwise_cons.mp hl
    unfold insertBefore
    split
    · next h =>
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl (by simpa using h)
      · exact hb x hx'
    · next h =>
      have hab : f b ≤ f a := by simpa using h
      refine List.pairwise_cons.mpr ⟨fun x hx => ?_, hl⟩
      have hle : f x ≤ f a := by
        rcases List.mem_cons.mp hx with rfl | hx'
        · exact hab
        · rcases hb x hx' with h1 | ⟨h1, -⟩
          · exact h1.le.trans hab
          · exact h1 ▸ hab
      rcases hle.lt_or_eq with h1 | h1
      · exact Or.inl h1
      · exact Or.inr ⟨h1.symm, ha x hx⟩

/-- Sorting by descending entries leaves equal entries in the order of their positions. -/
theorem sort_lex (l : List (Fin n)) (hl : l.Pairwise (· < ·)) : (stableSort (fun x y => decide (f y < f x)) l).Pairwise (Lex f) := by
  induction l with
  | nil => simp [stableSort]
  | cons a l ih =>
    obtain ⟨ha, hl'⟩ := List.pairwise_cons.mp hl
    unfold stableSort
    exact insert_lex f a _ (fun b hb => ha b ((perm_stableSort _ l).mem_iff.mp hb)) (ih hl')

/-- The sorted places follow the order of the entries. -/
theorem sorted_lex (i j : Fin n) (hij : i < j) :
    Lex f (sortedFrom (fun x y => decide (f y < f x)) i) (sortedFrom (fun x y => decide (f y < f x)) j) := by
  have h := List.pairwise_iff_get.mp (sort_lex f (List.finRange n) (List.pairwise_lt_finRange n))
  unfold sortedFrom
  exact h (i.cast (length_sortPositions n _).symm) (j.cast (length_sortPositions n _).symm) (Fin.lt_def.mpr (Fin.lt_def.mp hij))

/-- The first sorted place holds the greatest entry. -/
theorem sorted_first (h0 : 0 < n) : First f (sortedFrom (fun x y => decide (f y < f x)) ⟨0, h0⟩) := fun p hp => by
  obtain ⟨j, rfl⟩ := sortedFrom_surjective (fun x y => decide (f y < f x)) p
  have hj : (⟨0, h0⟩ : Fin n) < j := by
    refine Fin.lt_def.mpr (Nat.pos_of_ne_zero fun e => hp ?_)
    rw [show j = ⟨0, h0⟩ from Fin.ext e]
  exact (sorted_lex f _ _ hj).imp id fun q => ⟨q.1.symm, q.2⟩

/-- The second sorted place holds the greatest of the other entries. -/
theorem sorted_second (h1 : 1 < n) :
    Second f (sortedFrom (fun x y => decide (f y < f x)) ⟨0, by omega⟩) (sortedFrom (fun x y => decide (f y < f x)) ⟨1, h1⟩) := by
  refine ⟨fun e => ?_, fun p hp hp' => ?_⟩
  · have := congrArg Fin.val (sortedFrom_injective _ e); simp at this
  · obtain ⟨j, rfl⟩ := sortedFrom_surjective (fun x y => decide (f y < f x)) p
    have hj : (⟨1, h1⟩ : Fin n) < j := by
      refine Fin.lt_def.mpr ?_
      have e0 : j.val ≠ 0 := fun e => hp (by rw [show j = ⟨0, by omega⟩ from Fin.ext e])
      have e1 : j.val ≠ 1 := fun e => hp' (by rw [show j = ⟨1, h1⟩ from Fin.ext e])
      show 1 < j.val
      omega
    exact (sorted_lex f _ _ hj).imp id fun q => ⟨q.1.symm, q.2⟩

end Sorting

/-- The two greatest entries' softmax: the greater one's exponential is one. -/
theorem two_soft (x y : EReal) (hx : Real' x) : Ideal.exp (x - x) = 1 := by
  rw [hx.sub_self]
  show ((Real.exp 0 : ℝ) : EReal) = 1
  rw [Real.exp_zero]; rfl

end Cert.Routing
end
-- ==== Proof.Merge.Rows.lean ====
module

public import proofs.«01_k».proof.Proof.Merge.Route

@[expose] public section

set_option maxRecDepth 16384

noncomputable section

open Idealize.ShloMosaic

namespace Cert.Merge

/-- The activation of the recurrence's output (the tanh form of gelu). -/
def gelu (y : EReal) : EReal :=
  y * (Ideal.ofBits .f32 0x3F000000#32 * (1 + Ideal.tanh (Ideal.ofBits .f32 0x3F4C422A#32 * (y + Ideal.ofBits .f32 0x3D372713#32 * (y * y * y)))))

/-- A row after root-mean-square normalization, times a scale. -/
def normed (x : Fin 1024 → EReal) (g : EReal) (k : Fin 1024) : EReal :=
  x k * Ideal.rsqrt (Ideal.div (∑ j : Fin 1024, x j * x j) (Ideal.ofBits .f32 0x44800000#32) + Ideal.ofBits .f32 0x358637BD#32) * g

/-- One entry of a token's residual stream after both branches are merged: `z` the activated recurrence, `gs` and `ga` the
    gates, `a` the attention, `x` the residual, then the weights. -/
def mix (z : Fin 512 → EReal) (gs ga : Fin 1024 → EReal) (a : Fin 512 → EReal) (x : EReal) (wg : Fin 512 → Fin 512 → EReal) (bg : Fin 512 → EReal)
    (ws wa : Fin 512 → Fin 1024 → EReal) (wo : Fin 1024 → EReal) : EReal :=
  x + ∑ n : Fin 1024, (Ideal.logistic (gs n) * (∑ q : Fin 512, z q * Ideal.logistic (∑ p : Fin 512, z p * wg p q + bg q) * ws q n)
    + Ideal.logistic (ga n) * (∑ q : Fin 512, a q * wa q n)) * wo n

/-- The arguments of the call. -/
structure Args where
  y : FVec Ideal ⟨3, ![4, 32768, 128]⟩ .f32
  u : FVec Ideal ⟨2, ![32768, 2560]⟩ .f32
  att : FVec Ideal ⟨2, ![32768, 512]⟩ .bf16
  x : FVec Ideal ⟨2, ![32768, 1024]⟩ .f32
  d : FVec Ideal ⟨1, ![512]⟩ .f32
  wg : FVec Ideal ⟨2, ![512, 512]⟩ .f32
  bg : FVec Ideal ⟨1, ![512]⟩ .f32
  ws : FVec Ideal ⟨2, ![512, 1024]⟩ .f32
  wa : FVec Ideal ⟨2, ![512, 1024]⟩ .f32
  wo : FVec Ideal ⟨2, ![1024, 1024]⟩ .f32
  g2 : FVec Ideal ⟨1, ![1024]⟩ .f32
  wr : FVec Ideal ⟨2, ![1024, 4]⟩ .f32
  br : FVec Ideal ⟨1, ![4]⟩ .f32
  we : FVec Ideal ⟨2, ![1024, 32]⟩ .f32
  be : FVec Ideal ⟨1, ![32]⟩ .f32

namespace Args
variable (A : Args)

/-- The recurrence's output with its skip, heads laid side by side. -/
def pre (r : Fin 32768) (k : Fin 512) : EReal :=
  A.y (ix3 ⟨k.val / 128, by omega⟩ r ⟨k.val % 128, by omega⟩) + A.d (ix1 k) * A.u (ix2 r ⟨2048 + k.val, by omega⟩)

/-- The first result: the residual stream. -/
def x1 (r : Fin 32768) (k : Fin 1024) : EReal :=
  mix (fun q => gelu (A.pre r q)) (fun n => A.u (ix2 r ⟨n.val, by omega⟩)) (fun n => A.u (ix2 r ⟨1024 + n.val, by omega⟩)) (fun q => A.att (ix2 r q))
    (A.x (ix2 r k)) (fun p q => A.wg (ix2 p q)) (fun q => A.bg (ix1 q)) (fun q n => A.ws (ix2 q n)) (fun q n => A.wa (ix2 q n)) (fun n => A.wo (ix2 n k))

/-- The second result: the normalized tokens. -/
def h2 (r : Fin 32768) (k : Fin 1024) : EReal := normed (A.x1 r) (A.g2 (ix1 k)) k

/-- The groups' logits. -/
def gLogit (r : Fin 32768) (g : Fin 4) : EReal := ∑ k : Fin 1024, A.h2 r k * A.wr (ix2 k g) + A.br (ix1 g)

/-- The experts' logits, by group. -/
def eLogit (r : Fin 32768) (g : Fin 4) (a : Fin 8) : EReal :=
  ∑ k : Fin 1024, A.h2 r k * A.we (ix2 k ⟨g.val * 8 + a.val, by omega⟩) + A.be (ix1 ⟨g.val * 8 + a.val, by omega⟩)

end Args

/-- The third result, where group `g` and its experts `a` and `b` are chosen: the two experts' weights, zero elsewhere. -/
def chosen (A : Args) (r : Fin 32768) (g : Fin 4) (a b : Fin 8) (k : Fin 128) : EReal :=
  if k = Routing.el g a then Ideal.div 1 (1 + Ideal.exp (A.eLogit r g b - A.eLogit r g a)) * Routing.soft (A.gLogit r) g
  else if k = Routing.el g b then
    Ideal.div (Ideal.exp (A.eLogit r g b - A.eLogit r g a)) (1 + Ideal.exp (A.eLogit r g b - A.eLogit r g a)) * Routing.soft (A.gLogit r) g
  else 0

/-- The chosen group, and the two chosen experts of a group, in the order of descending entries. -/
def group (A : Args) (r : Fin 32768) : Fin 4 := sortedFrom (fun x y => decide (Routing.soft (A.gLogit r) y < Routing.soft (A.gLogit r) x)) 0
/-- The expert at place `s` of the group `g`'s experts sorted by descending logits. -/
def expert (A : Args) (r : Fin 32768) (g : Fin 4) (s : Fin 8) : Fin 8 := sortedFrom (fun x y => decide (A.eLogit r g y < A.eLogit r g x)) s

/-- The third result: the mixing weights. -/
def comb (A : Args) (r : Fin 32768) (k : Fin 128) : EReal :=
  chosen A r (group A r) (expert A r (group A r) 0) (expert A r (group A r) 1) k

/-- The arguments the routing asks to be finite. -/
structure Args.Finite (A : Args) : Prop where
  g2 : ∀ k, Rotation.Real' (A.g2 (ix1 k))
  wr : ∀ k g, Rotation.Real' (A.wr (ix2 k g))
  we : ∀ k n, Rotation.Real' (A.we (ix2 k n))
  be : ∀ n, Rotation.Real' (A.be (ix1 n))

/-- Normalized tokens are real numbers, whatever the residual stream holds. -/
theorem h2_real (A : Args) (hA : A.Finite) (r : Fin 32768) (k : Fin 1024) : Rotation.Real' (A.h2 r k) :=
  Rotation.normed_real (A.x1 r) (A.g2 (ix1 k)) (hA.g2 k) k

/-- A sum of two reals is real. -/
theorem real_add {x y : EReal} : Rotation.Real' x → Rotation.Real' y → Rotation.Real' (x + y) :=
  fun ⟨a, ha⟩ ⟨b, hb⟩ => ⟨a + b, by rw [ha, hb, EReal.coe_add]⟩

/-- The experts' logits are real numbers. -/
theorem eLogit_real (A : Args) (hA : A.Finite) (r : Fin 32768) (g : Fin 4) (a : Fin 8) : Rotation.Real' (A.eLogit r g a) :=
  real_add (Rotation.Real'.sum _ fun k => (h2_real A hA r k).mul (hA.we k _)) (hA.be _)

end Cert.Merge
end
-- ==== Proof.Merge.Host.lean ====
module

public import proofs.«01_k».proof.Proof.Gen.MergeIdeal.Frame
public import Idealize.ShloMosaic.Lib.StableHlo.RunRead
public import Idealize.ShloMosaic.Lib.Pointwise
public import proofs.«01_k».proof.Proof.Merge.Route

@[expose] public section

set_option maxRecDepth 100000

noncomputable section

open Idealize.ShloMosaic Idealize.ShloMosaic.TcCoe Idealize.SL.Sem

namespace Cert.MergeIdeal.Prep
open Cert.MergeIdeal Cert.MergeIdeal.Gen

/-- The router's matrix: the experts' columns, then the groups', then zeros. -/
def matrix (a : FVec Ideal S1024x32 .f32) (b : FVec Ideal S1024x4 .f32) (z : FVec Ideal S1024x92 .f32) : FVec Ideal S1024x128 .f32 :=
  concatenate S1024x128 1 [⟨S1024x32, a⟩, ⟨S1024x4, b⟩, ⟨S1024x92, z⟩] concatenates_S1024x32_S1024x4_S1024x92_S1024x128_d1

/-- The router's bias: the experts', then the groups', then zeros. -/
def bias (a : FVec Ideal S32 .f32) (b : FVec Ideal S4 .f32) (z : FVec Ideal S92 .f32) : FVec Ideal S128 .f32 :=
  concatenate S128 0 [⟨S32, a⟩, ⟨S4, b⟩, ⟨S92, z⟩] concatenates_S32_S4_S92_S128_d0

/-- An expert's column of the router's matrix. -/
theorem matrix_expert (a : FVec Ideal S1024x32 .f32) (b : FVec Ideal S1024x4 .f32) (z : FVec Ideal S1024x92 .f32) (k : Fin 1024) (g : Fin 4) (e : Fin 8) :
    matrix a b z (ix2 k (Routing.el g e)) = a (ix2 k ⟨g.val * 8 + e.val, by omega⟩) := by
  obtain ⟨n, hn⟩ : ∃ n : Fin 128, n = Routing.el g e := ⟨_, rfl⟩
  have h : n.val = g.val * 8 + e.val := by rw [hn]; rfl
  rw [← hn]
  pointwise [matrix]
  rw [dif_pos (by omega)]
  exact congrArg (fun q => a (ix2 k q)) (Fin.ext h)

/-- A group's column of the router's matrix. -/
theorem matrix_group (a : FVec Ideal S1024x32 .f32) (b : FVec Ideal S1024x4 .f32) (z : FVec Ideal S1024x92 .f32) (k : Fin 1024) (g : Fin 4) :
    matrix a b z (ix2 k (Routing.gl g)) = b (ix2 k g) := by
  obtain ⟨n, hn⟩ : ∃ n : Fin 128, n = Routing.gl g := ⟨_, rfl⟩
  have h : n.val = 32 + g.val := by rw [hn]; rfl
  rw [← hn]
  pointwise [matrix]
  rw [dif_neg (by omega), dif_pos (by omega)]
  exact congrArg (fun q => b (ix2 k q)) (Fin.ext (by simp only []; omega))

/-- An expert's entry of the router's bias. -/
theorem bias_expert (a : FVec Ideal S32 .f32) (b : FVec Ideal S4 .f32) (z : FVec Ideal S92 .f32) (g : Fin 4) (e : Fin 8) :
    bias a b z (ix1 (Routing.el g e)) = a (ix1 ⟨g.val * 8 + e.val, by omega⟩) := by
  obtain ⟨n, hn⟩ : ∃ n : Fin 128, n = Routing.el g e := ⟨_, rfl⟩
  have h : n.val = g.val * 8 + e.val := by rw [hn]; rfl
  rw [← hn]
  pointwise [bias]
  rw [dif_pos (by omega)]
  exact congrArg (fun q => a (ix1 q)) (Fin.ext h)

/-- A group's entry of the router's bias. -/
theorem bias_group (a : FVec Ideal S32 .f32) (b : FVec Ideal S4 .f32) (z : FVec Ideal S92 .f32) (g : Fin 4) :
    bias a b z (ix1 (Routing.gl g)) = b (ix1 g) := by
  obtain ⟨n, hn⟩ : ∃ n : Fin 128, n = Routing.gl g := ⟨_, rfl⟩
  have h : n.val = 32 + g.val := by rw [hn]; rfl
  rw [← hn]
  pointwise [bias]
  rw [dif_neg (by omega), dif_pos (by omega)]
  exact congrArg (fun q => b (ix1 q)) (Fin.ext (by simp only []; omega))

/-- A vector laid out as one row. -/
theorem cast_row (B : FVec Ideal S128 .f32) (n : Fin 128) : (shapeCast S1x128 B shapeCasts_S128_S1x128 : FVec Ideal S1x128 .f32) (ix2 (0 : Fin 1) n) = B (ix1 n) := by
  pointwise

variable (σ : Valuation τ sig (Elt Ideal))

set_option maxHeartbeats 2000000 in
/-- The router's matrix as the host line leaves it. -/
theorem line_matrix : ∃ z : FVec Ideal S1024x92 .f32, (StableHlo.after hostOps0 σ (Proc.devRef .tc main_v1) : FVec Ideal S1024x128 .f32)
    = matrix (σ (Proc.devRef .tc main_arg13)) (σ (Proc.devRef .tc main_arg11)) z := by
  simp only [hostOps0]
  after_results_simp
  exact ⟨_, rfl⟩

set_option maxHeartbeats 2000000 in
/-- The router's bias as the host line leaves it. -/
theorem line_bias : ∃ z : FVec Ideal S92 .f32, ∀ n : Fin 128, (StableHlo.after hostOps0 σ (Proc.devRef .tc main_v4) : FVec Ideal S1x128 .f32) (ix2 (0 : Fin 1) n)
    = bias (σ (Proc.devRef .tc main_arg14)) (σ (Proc.devRef .tc main_arg12)) z (ix1 n) := by
  simp only [hostOps0]
  after_results_simp
  exact ⟨_, fun n => Eq.trans (cast_row (bias _ _ _) n) rfl⟩

end Cert.MergeIdeal.Prep
end
-- ==== Proof.Merge.Reads.lean ====
module

public import proofs.«01_k».proof.Proof.Gen.MergeIdeal.Value
public import proofs.«01_k».proof.Proof.Merge.Rows
public import proofs.«01_k».proof.Proof.Merge.Host
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Tokens
open Cert.MergeIdeal Cert.MergeIdeal.Gen Cert.Merge
variable (m : (ℓ : Loc nD τ sig) → Buf (Elt Ideal) ℓ)

/-- The kernel's arguments in memory. -/
def args (c : Dev nD) : Args where
  y := m ((c : Thread nD τ).loc main_arg0)
  u := m ((c : Thread nD τ).loc main_arg1)
  att := m ((c : Thread nD τ).loc main_arg2)
  x := m ((c : Thread nD τ).loc main_arg3)
  d := m ((c : Thread nD τ).loc main_arg4)
  wg := m ((c : Thread nD τ).loc main_arg5)
  bg := m ((c : Thread nD τ).loc main_arg6)
  ws := m ((c : Thread nD τ).loc main_arg7)
  wa := m ((c : Thread nD τ).loc main_arg8)
  wo := m ((c : Thread nD τ).loc main_arg9)
  g2 := m ((c : Thread nD τ).loc main_arg10)
  wr := m ((c : Thread nD τ).loc main_arg11)
  br := m ((c : Thread nD τ).loc main_arg12)
  we := m ((c : Thread nD τ).loc main_arg13)
  be := m ((c : Thread nD τ).loc main_arg14)

/-- Which block each window shows at each grid point. -/
theorem idx : ∀ t : Fin cfg0.N, win0_0.index t = ![0, t.val, 0] ∧ win0_1.index t = ![t.val, 4] ∧ win0_2.index t = ![t.val, 0] ∧ win0_3.index t = ![t.val, 0] ∧ win0_4.index t = ![t.val, 1]
    ∧ win0_5.index t = ![t.val, 0] ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] ∧ win0_15.index t = ![t.val, 0] ∧ win0_16.index t = ![t.val, 0] ∧ win0_17.index t = ![t.val, 0] :=
  (by decide +kernel : ∀ t : Fin grid0.N, _)

/-- The recurrence's output, head by head. -/
theorem reads0 (c : Dev nD) (t : Fin cfg0.N) (h : Fin 4) (r : Fin 512) (j : Fin 128) (i : Fin 32768) (hi : i.val = t.val * 512 + r.val) :
    (iblk m c 0 t : FVec Ideal S4x512x128 .f32) (ix3 h r j) = (args m c).y (ix3 h i j) := by
  blk_ext [iblk, V, idx t]

/-- The recurrence's input. -/
theorem reads1 (c : Dev nD) (t : Fin cfg0.N) (r : Fin 512) (k : Fin 512) (i : Fin 32768) (hi : i.val = t.val * 512 + r.val) :
    (iblk m c 1 t : FVec Ideal S512x512 .f32) (ix2 r k) = (args m c).u (ix2 i ⟨2048 + k.val, by omega⟩) := by
  blk_ext [iblk, V, idx t]

/-- The attention. -/
theorem reads2 (c : Dev nD) (t : Fin cfg0.N) (r : Fin 512) (k : Fin 512) (i : Fin 32768) (hi : i.val = t.val * 512 + r.val) :
    (iblk m c 2 t : FVec Ideal S512x512 .bf16) (ix2 r k) = (args m c).att (ix2 i k) := by
  blk_ext [iblk, V, idx t]

/-- The recurrence's gate. -/
theorem reads3 (c : Dev nD) (t : Fin cfg0.N) (r : Fin 512) (k : Fin 1024) (i : Fin 32768) (hi : i.val = t.val * 512 + r.val) :
    (X0_3 m c t : FVec Ideal S512x1024 .f32) (ix2 r k) = (args m c).u (ix2 i ⟨k.val, by omega⟩) := by
  unfold X0_3 Pipeline.Window.fill
  rw [dif_pos (moved0_3 t _)]
  blk_ext [iblk, V, idx t]

/-- The attention's gate. -/
theorem reads4 (c : Dev nD) (t : Fin cfg0.N) (r : Fin 512) (k : Fin 1024) (i : Fin 32768) (hi : i.val = t.val * 512 + r.val) :
    (X0_4 m c t : FVec Ideal S512x1024 .f32) (ix2 r k) = (args m c).u (ix2 i ⟨1024 + k.val, by omega⟩) := by
  unfold X0_4 Pipeline.Window.fill
  rw [dif_pos (moved0_4 t _)]
  blk_ext [iblk, V, idx t]

/-- The residual. -/
theorem reads5 (c : Dev nD) (t : Fin cfg0.N) (r : Fin 512) (k : Fin 1024) (i : Fin 32768) (hi : i.val = t.val * 512 + r.val) :
    (iblk m c 5 t : FVec Ideal S512x1024 .f32) (ix2 r k) = (args m c).x (ix2 i k) := by
  blk_ext [iblk, V, idx t]

/-- The skip's factors. -/
theorem reads6 (c : Dev nD) (t : Fin cfg0.N) (k : Fin 512) : (iblk m c 6 t : FVec Ideal S1x512 .f32) (ix2 (0 : Fin 1) k) = (args m c).d (ix1 k) := by
  blk_simp [iblk]
  entry_read
  pointwise
  blk_ext [idx t]

/-- The gated unit's matrix. -/
theorem reads7 (c : Dev nD) (t : Fin cfg0.N) (p q : Fin 512) : (iblk m c 7 t : FVec Ideal S512x512 .bf16) (ix2 p q) = (args m c).wg (ix2 p q) := by
  blk_simp [iblk]
  entry_read
  pointwise
  blk_ext [idx t]

/-- The gated unit's bias. -/
theorem reads8 (c : Dev nD) (t : Fin cfg0.N) (k : Fin 512) : (iblk m c 8 t : FVec Ideal S1x512 .f32) (ix2 (0 : Fin 1) k) = (args m c).bg (ix1 k) := by
  blk_simp [iblk]
  entry_read
  pointwise
  blk_ext [idx t]

/-- The recurrence's projection. -/
theorem reads9 (c : Dev nD) (t : Fin cfg0.N) (q : Fin 512) (n : Fin 1024) : (iblk m c 9 t : FVec Ideal S512x1024 .bf16) (ix2 q n) = (args m c).ws (ix2 q n) := by
  blk_simp [iblk]
  entry_read
  pointwise
  blk_ext [idx t]

/-- The attention's projection. -/
theorem reads10 (c : Dev nD) (t : Fin cfg0.N) (q : Fin 512) (n : Fin 1024) : (iblk m c 10 t : FVec Ideal S512x1024 .bf16) (ix2 q n) = (args m c).wa (ix2 q n) := by
  blk_simp [iblk]
  entry_read
  pointwise
  blk_ext [idx t]

/-- The output projection. -/
theorem reads11 (c : Dev nD) (t : Fin cfg0.N) (n k : Fin 1024) : (iblk m c 11 t : FVec Ideal S1024x1024 .bf16) (ix2 n k) = (args m c).wo (ix2 n k) := by
  blk_simp [iblk]
  entry_read
  pointwise
  blk_ext [idx t]

/-- The norm's gain. -/
theorem reads12 (c : Dev nD) (t : Fin cfg0.N) (k : Fin 1024) : (iblk m c 12 t : FVec Ideal S1x1024 .f32) (ix2 (0 : Fin 1) k) = (args m c).g2 (ix1 k) := by
  blk_simp [iblk]
  entry_read
  pointwise
  blk_ext [idx t]

/-- The router's matrix is the host's array. -/
theorem held13 (c : Dev nD) (t : Fin cfg0.N) (k : Fin 1024) (n : Fin 128) :
    (iblk m c 13 t : FVec Ideal S1024x128 .f32) (ix2 k n) = (StableHlo.after hostOps0 (fun b => m (c, b)) (Proc.devRef .tc main_v1) : FVec Ideal S1024x128 .f32) (ix2 k n) := by
  blk_ext [iblk, V, idx t]

/-- The router's bias is the host's array. -/
theorem held14 (c : Dev nD) (t : Fin cfg0.N) (n : Fin 128) :
    (iblk m c 14 t : FVec Ideal S1x128 .f32) (ix2 (0 : Fin 1) n) = (StableHlo.after hostOps0 (fun b => m (c, b)) (Proc.devRef .tc main_v4) : FVec Ideal S1x128 .f32) (ix2 (0 : Fin 1) n) := by
  blk_ext [iblk, V, idx t]

/-- The router's matrix, an expert's column. -/
theorem reads13e (c : Dev nD) (t : Fin cfg0.N) (k : Fin 1024) (g : Fin 4) (a : Fin 8) :
    (iblk m c 13 t : FVec Ideal S1024x128 .f32) (ix2 k (Routing.el g a)) = (args m c).we (ix2 k ⟨g.val * 8 + a.val, by omega⟩) := by
  obtain ⟨z, hz⟩ := Prep.line_matrix (fun b => m (c, b))
  exact (held13 m c t k _).trans ((congrFun hz _).trans (Prep.matrix_expert _ _ z k g a))

/-- The router's matrix, a group's column. -/
theorem reads13g (c : Dev nD) (t : Fin cfg0.N) (k : Fin 1024) (g : Fin 4) :
    (iblk m c 13 t : FVec Ideal S1024x128 .f32) (ix2 k (Routing.gl g)) = (args m c).wr (ix2 k g) := by
  obtain ⟨z, hz⟩ := Prep.line_matrix (fun b => m (c, b))
  exact (held13 m c t k _).trans ((congrFun hz _).trans (Prep.matrix_group _ _ z k g))

/-- The router's bias, an expert's entry. -/
theorem reads14e (c : Dev nD) (t : Fin cfg0.N) (g : Fin 4) (a : Fin 8) :
    (iblk m c 14 t : FVec Ideal S1x128 .f32) (ix2 (0 : Fin 1) (Routing.el g a)) = (args m c).be (ix1 ⟨g.val * 8 + a.val, by omega⟩) := by
  obtain ⟨z, hz⟩ := Prep.line_bias (fun b => m (c, b))
  exact (held14 m c t _).trans ((hz _).trans (Prep.bias_expert _ _ z g a))

/-- The router's bias, a group's entry. -/
theorem reads14g (c : Dev nD) (t : Fin cfg0.N) (g : Fin 4) :
    (iblk m c 14 t : FVec Ideal S1x128 .f32) (ix2 (0 : Fin 1) (Routing.gl g)) = (args m c).br (ix1 g) := by
  obtain ⟨z, hz⟩ := Prep.line_bias (fun b => m (c, b))
  exact (held14 m c t _).trans ((hz _).trans (Prep.bias_group _ _ z g))

end Cert.MergeIdeal.Tokens
end
-- ==== Proof.Merge.Block.lean ====
module

public import proofs.«01_k».proof.Proof.Gen.MergeIdeal.Skeleton
public import proofs.«01_k».proof.Proof.Merge.Rows
public import Idealize.ShloMosaic.Lib.Pipeline.ValueKit
public import Idealize.ShloMosaic.Lib.Pointwise

@[expose] public section

set_option maxRecDepth 16384

noncomputable section

open Idealize.ShloMosaic

namespace Cert.MergeIdeal.Block
open Cert.MergeIdeal Cert.MergeIdeal.Gen Cert.Merge

/-- What the kernel reads at one grid point, row `r` of the block being token `i`. -/
structure Row (A : Args) (i : Fin 32768) (r : Fin 512) (v0 v2 v4 v6 : FVec Ideal S1x512x128 .f32) (v9 : FVec Ideal S1x512 .f32) (v11 : FVec Ideal S512x512 .f32)
    (v29 : FVec Ideal S512x512 .bf16) (v32 : FVec Ideal S1x512 .f32) (v39 : FVec Ideal S512x1024 .bf16) (v42 : FVec Ideal S512x512 .bf16) (v43 : FVec Ideal S512x1024 .bf16)
    (v46 v49 v53 : FVec Ideal S512x1024 .f32) (v55 : FVec Ideal S1024x1024 .bf16) (v70 : FVec Ideal S1x1024 .f32) (v76 : FVec Ideal S1024x128 .f32) (v91 : FVec Ideal S1x128 .f32) : Prop where
  y0 : ∀ j : Fin 128, v0 (ix3 (0 : Fin 1) r j) = A.y (ix3 0 i j)
  y1 : ∀ j : Fin 128, v2 (ix3 (0 : Fin 1) r j) = A.y (ix3 1 i j)
  y2 : ∀ j : Fin 128, v4 (ix3 (0 : Fin 1) r j) = A.y (ix3 2 i j)
  y3 : ∀ j : Fin 128, v6 (ix3 (0 : Fin 1) r j) = A.y (ix3 3 i j)
  d : ∀ k : Fin 512, v9 (ix2 (0 : Fin 1) k) = A.d (ix1 k)
  u : ∀ k : Fin 512, v11 (ix2 r k) = A.u (ix2 i ⟨2048 + k.val, by omega⟩)
  wg : ∀ p q : Fin 512, v29 (ix2 p q) = A.wg (ix2 p q)
  bg : ∀ q : Fin 512, v32 (ix2 (0 : Fin 1) q) = A.bg (ix1 q)
  ws : ∀ (q : Fin 512) (n : Fin 1024), v39 (ix2 q n) = A.ws (ix2 q n)
  att : ∀ q : Fin 512, v42 (ix2 r q) = A.att (ix2 i q)
  wa : ∀ (q : Fin 512) (n : Fin 1024), v43 (ix2 q n) = A.wa (ix2 q n)
  gs : ∀ n : Fin 1024, v46 (ix2 r n) = A.u (ix2 i ⟨n.val, by omega⟩)
  ga : ∀ n : Fin 1024, v49 (ix2 r n) = A.u (ix2 i ⟨1024 + n.val, by omega⟩)
  x : ∀ n : Fin 1024, v53 (ix2 r n) = A.x (ix2 i n)
  wo : ∀ n k : Fin 1024, v55 (ix2 n k) = A.wo (ix2 n k)
  g2 : ∀ k : Fin 1024, v70 (ix2 (0 : Fin 1) k) = A.g2 (ix1 k)
  we : ∀ (k : Fin 1024) (g : Fin 4) (a : Fin 8), v76 (ix2 k (Routing.el g a)) = A.we (ix2 k ⟨g.val * 8 + a.val, by omega⟩)
  wr : ∀ (k : Fin 1024) (g : Fin 4), v76 (ix2 k (Routing.gl g)) = A.wr (ix2 k g)
  be : ∀ (g : Fin 4) (a : Fin 8), v91 (ix2 (0 : Fin 1) (Routing.el g a)) = A.be (ix1 ⟨g.val * 8 + a.val, by omega⟩)
  br : ∀ g : Fin 4, v91 (ix2 (0 : Fin 1) (Routing.gl g)) = A.br (ix1 g)

section
variable {A : Args} {i : Fin 32768} {r : Fin 512} {v0 v2 v4 v6 : FVec Ideal S1x512x128 .f32} {v9 : FVec Ideal S1x512 .f32} {v11 : FVec Ideal S512x512 .f32}
    {v29 : FVec Ideal S512x512 .bf16} {v32 : FVec Ideal S1x512 .f32} {v39 : FVec Ideal S512x1024 .bf16} {v42 : FVec Ideal S512x512 .bf16} {v43 : FVec Ideal S512x1024 .bf16}
    {v46 v49 v53 : FVec Ideal S512x1024 .f32} {v55 : FVec Ideal S1024x1024 .bf16} {v70 : FVec Ideal S1x1024 .f32} {v76 : FVec Ideal S1024x128 .f32} {v91 : FVec Ideal S1x128 .f32}
    (R : Row A i r v0 v2 v4 v6 v9 v11 v29 v32 v39 v42 v43 v46 v49 v53 v55 v70 v76 v91)
include R

/-- The four heads laid side by side. -/
theorem heads (k : Fin 512) :
    (if h : k.val < 128 then v0 (ix3 (0 : Fin 1) r ⟨k.val, h⟩) else if h : k.val - 128 < 128 then v2 (ix3 (0 : Fin 1) r ⟨k.val - 128, h⟩)
      else if h : k.val - 128 - 128 < 128 then v4 (ix3 (0 : Fin 1) r ⟨k.val - 128 - 128, h⟩) else v6 (ix3 (0 : Fin 1) r ⟨k.val - 128 - 128 - 128, by omega⟩) : EReal)
      = A.y (ix3 ⟨k.val / 128, by omega⟩ i ⟨k.val % 128, by omega⟩) := by
  have key : ∀ (h : Fin 4) (j : Fin 128), k.val = h.val * 128 + j.val → A.y (ix3 h i j) = A.y (ix3 ⟨k.val / 128, by omega⟩ i ⟨k.val % 128, by omega⟩) := fun h j e => by
    rw [show (⟨k.val / 128, by omega⟩ : Fin 4) = h from Fin.ext (by simp only []; omega), show (⟨k.val % 128, by omega⟩ : Fin 128) = j from Fin.ext (by simp only []; omega)]
  by_cases h0 : k.val < 128
  · rw [dif_pos h0, R.y0]
    exact key 0 _ (by simp)
  · rw [dif_neg h0]
    by_cases h1 : k.val - 128 < 128
    · rw [dif_pos h1, R.y1]
      exact key 1 _ (by simp; omega)
    · rw [dif_neg h1]
      by_cases h2 : k.val - 128 - 128 < 128
      · rw [dif_pos h2, R.y2]
        exact key 2 _ (by simp; omega)
      · rw [dif_neg h2, R.y3]
        exact key 3 _ (by simp; omega)

/-- The activated recurrence. -/
theorem act (k : Fin 512) : k0_pay2 (F := Ideal) v0 v2 v4 v6 v9 v11 (ix2 r k) = gelu (A.pre i k) := by
  have hp : A.pre i k = _ := congrArg (· + A.d (ix1 k) * A.u (ix2 i ⟨2048 + k.val, by omega⟩)) (heads R k).symm
  rw [hp, ← R.d, ← R.u]
  pointwise [k0_pay2, gelu]
  simp only [mul_assoc]

/-- The residual stream. -/
theorem stream (k : Fin 1024) :
    k0_pay5 (F := Ideal) (k0_pay2 v0 v2 v4 v6 v9 v11) (k0_pay3 v0 v2 v4 v6 v9 v11 v29) (k0_pay4 v32) v39 v42 v43 v46 v49 v53 v55 (ix2 r k) = A.x1 i k := by
  unfold Args.x1
  simp only [← act R]
  unfold k0_pay3
  obtain ⟨Z, hZ⟩ : ∃ Z : FVec Ideal S512x512 .f32, Z = k0_pay2 v0 v2 v4 v6 v9 v11 := ⟨_, rfl⟩
  rw [← hZ]
  pointwise [k0_pay5, k0_pay4, mix]
  simp only [R.wg, R.bg, R.ws, R.att, R.wa, R.gs, R.ga, R.x, R.wo]

/-- The normalized tokens. -/
theorem tokens (k : Fin 1024) :
    k0_pay6 (F := Ideal) (k0_pay2 v0 v2 v4 v6 v9 v11) (k0_pay3 v0 v2 v4 v6 v9 v11 v29) (k0_pay4 v32) v39 v42 v43 v46 v49 v53 v55 (ix2 r k) * v70 (ix2 (0 : Fin 1) k) = A.h2 i k := by
  have e : A.x1 i = fun k => (k0_pay5 (F := Ideal) (k0_pay2 v0 v2 v4 v6 v9 v11) (k0_pay3 v0 v2 v4 v6 v9 v11 v29) (k0_pay4 v32) v39 v42 v43 v46 v49 v53 v55) (ix2 r k) :=
    funext fun k => (stream R k).symm
  unfold Args.h2
  rw [e, ← R.g2]
  unfold k0_pay6
  obtain ⟨X, hX⟩ : ∃ X : FVec Ideal S512x1024 .f32, X = k0_pay5 (F := Ideal) (k0_pay2 v0 v2 v4 v6 v9 v11) (k0_pay3 v0 v2 v4 v6 v9 v11 v29) (k0_pay4 v32) v39 v42 v43 v46 v49 v53 v55 := ⟨_, rfl⟩
  rw [← hX]
  pointwise [normed]

end

/-- A lane of the router's logits, its matrix and the tokens being real. -/
theorem logit (v69 : FVec Ideal S512x1024 .f32) (v70 : FVec Ideal S1x1024 .f32) (v76 : FVec Ideal S1024x128 .f32) (v91 : FVec Ideal S1x128 .f32) (r : Fin 512) (n : Fin 128)
    (h : Fin 1024 → EReal) (hh : ∀ k, v69 (ix2 r k) * v70 (ix2 (0 : Fin 1) k) = h k) (hr : ∀ k, Rotation.Real' (h k)) (w : Fin 1024 → EReal) (hw : ∀ k, v76 (ix2 k n) = w k)
    (wr : ∀ k, Rotation.Real' (w k)) (b : EReal) (hb : v91 (ix2 (0 : Fin 1) n) = b) :
    k0_pay9 (F := Ideal) v69 v70 v76 v91 (ix2 r n) = ∑ k : Fin 1024, h k * w k + b := by
  have h7 : ∀ k, k0_pay7 (F := Ideal) v69 v70 (ix2 r k) = h k := fun k => by
    rw [← hh]
    pointwise [k0_pay7]
  pointwise [k0_pay9]
  simp only [hh, h7, hw, hb, fun k => (hr k).sub_self, fun k => (wr k).sub_self, mul_zero, zero_mul, Finset.sum_const_zero, add_zero]

section
variable (v69 : FVec Ideal S512x1024 .f32) (v70 : FVec Ideal S1x1024 .f32) (v76 : FVec Ideal S1024x128 .f32) (v91 : FVec Ideal S1x128 .f32) (r : Fin 512)

/-- The groups' probabilities, lane by lane. -/
theorem probs (n : Fin 128) : k0_pay11 (F := Ideal) v69 v70 v76 v91 (ix2 r n) = Routing.gProb (fun n => k0_pay9 (F := Ideal) v69 v70 v76 v91 (ix2 r n)) n := by
  unfold k0_pay11
  obtain ⟨L, hL⟩ : ∃ L : FVec Ideal S512x128 .f32, L = k0_pay9 (F := Ideal) v69 v70 v76 v91 := ⟨_, rfl⟩
  rw [← hL]
  pointwise [k0_pay10, Routing.gProb, Routing.gLogit, Routing.isGroup]

/-- The chosen group's probability. -/
theorem topProb : k0_pay12 (F := Ideal) v69 v70 v76 v91 (ix1 r) = Routing.top (Routing.gProb (fun n => k0_pay9 (F := Ideal) v69 v70 v76 v91 (ix2 r n))) := by
  have e : Routing.gProb (fun n => k0_pay9 (F := Ideal) v69 v70 v76 v91 (ix2 r n)) = fun n => k0_pay11 (F := Ideal) v69 v70 v76 v91 (ix2 r n) := funext fun n => (probs v69 v70 v76 v91 r n).symm
  rw [e]
  unfold k0_pay12
  obtain ⟨L, hL⟩ : ∃ L : FVec Ideal S512x128 .f32, L = k0_pay11 (F := Ideal) v69 v70 v76 v91 := ⟨_, rfl⟩
  rw [← hL]
  pointwise [Routing.top]

end

section
variable (L P : FVec Ideal S512x128 .f32) (M : FVec Ideal S512 .f32) (r : Fin 512)

/-- The lanes' numbers. -/
abbrev lanes : IVec S512x128 32 := iota .tc S512x128 32 [1] iota_S512x128_d1_w32

/-- The logits of the experts in the chosen group. -/
theorem experts (n : Fin 128) : k0_pay14 (F := Ideal) L lanes k0_pay10 P M (ix2 r n)
    = Routing.eLogit (fun n => L (ix2 r n)) (Routing.gLane (fun n => P (ix2 r n)) (M (ix1 r))) n := by
  pointwise [k0_pay14, k0_pay13, k0_pay10]
  rfl

/-- The mixing weights, of the logits. -/
theorem wts (n : Fin 128) :
    k0_pay1 (F := Ideal) lanes (k0_pay13 M) (k0_pay16 L lanes k0_pay10 P M) (k0_pay19 L lanes k0_pay10 P M) (k0_pay20 L lanes k0_pay10 P M) (k0_pay21 L lanes k0_pay10 P M)
      (k0_pay22 L lanes k0_pay10 P M) (ix2 r n)
    = Routing.weights (M (ix1 r)) (fun n => k0_pay14 (F := Ideal) L lanes k0_pay10 P M (ix2 r n)) n := by
  have h15 : ∀ z : Fin 1, k0_pay15 (F := Ideal) L lanes k0_pay10 P M (ix2 r z) = Routing.top (fun n => k0_pay14 (F := Ideal) L lanes k0_pay10 P M (ix2 r n)) := fun z => by
    unfold k0_pay15
    obtain ⟨E, hE⟩ : ∃ E : FVec Ideal S512x128 .f32, E = k0_pay14 (F := Ideal) L lanes k0_pay10 P M := ⟨_, rfl⟩
    rw [← hE]
    pointwise [Routing.top]
  have h16 : ∀ z : Fin 1, k0_pay16 (F := Ideal) L lanes k0_pay10 P M (ix2 r z) = Routing.lane (fun n => k0_pay14 (F := Ideal) L lanes k0_pay10 P M (ix2 r n)) := fun z => by
    unfold Routing.lane
    rw [← h15 0]
    unfold k0_pay16
    obtain ⟨E, hE⟩ : ∃ E : FVec Ideal S512x128 .f32, E = k0_pay14 (F := Ideal) L lanes k0_pay10 P M := ⟨_, rfl⟩
    obtain ⟨T, hT⟩ : ∃ T : FVec Ideal S512x1 .f32, T = k0_pay15 (F := Ideal) L lanes k0_pay10 P M := ⟨_, rfl⟩
    rw [← hE, ← hT]
    pointwise [Routing.least]
  have h17 : ∀ n, k0_pay17 (F := Ideal) L lanes k0_pay10 P M (ix2 r n)
      = Routing.without (fun n => k0_pay14 (F := Ideal) L lanes k0_pay10 P M (ix2 r n)) (Routing.lane (fun n => k0_pay14 (F := Ideal) L lanes k0_pay10 P M (ix2 r n))) n := fun n => by
    rw [← h16 0]
    unfold k0_pay17
    obtain ⟨E, hE⟩ : ∃ E : FVec Ideal S512x128 .f32, E = k0_pay14 (F := Ideal) L lanes k0_pay10 P M := ⟨_, rfl⟩
    obtain ⟨T, hT⟩ : ∃ T : IVec S512x1 32, T = k0_pay16 (F := Ideal) L lanes k0_pay10 P M := ⟨_, rfl⟩
    rw [← hE, ← hT]
    pointwise [Routing.without]
  have e17 := (funext h17).symm
  have h18 : ∀ z : Fin 1, k0_pay18 (F := Ideal) L lanes k0_pay10 P M (ix2 r z) = Routing.top (fun n => k0_pay17 (F := Ideal) L lanes k0_pay10 P M (ix2 r n)) := fun z => by
    unfold k0_pay18
    obtain ⟨E, hE⟩ : ∃ E : FVec Ideal S512x128 .f32, E = k0_pay17 (F := Ideal) L lanes k0_pay10 P M := ⟨_, rfl⟩
    rw [← hE]
    pointwise [Routing.top]
  have h19 : ∀ z : Fin 1, k0_pay19 (F := Ideal) L lanes k0_pay10 P M (ix2 r z) = Routing.lane (fun n => k0_pay17 (F := Ideal) L lanes k0_pay10 P M (ix2 r n)) := fun z => by
    unfold Routing.lane
    rw [← h18 0]
    unfold k0_pay19
    obtain ⟨E, hE⟩ : ∃ E : FVec Ideal S512x128 .f32, E = k0_pay17 (F := Ideal) L lanes k0_pay10 P M := ⟨_, rfl⟩
    obtain ⟨T, hT⟩ : ∃ T : FVec Ideal S512x1 .f32, T = k0_pay18 (F := Ideal) L lanes k0_pay10 P M := ⟨_, rfl⟩
    rw [← hE, ← hT]
    pointwise [Routing.least]
  unfold Routing.weights
  rw [e17, ← h15 0, ← h16 0, ← h18 0, ← h19 0]
  unfold k0_pay22 k0_pay21 k0_pay20
  obtain ⟨T15, h15'⟩ : ∃ T : FVec Ideal S512x1 .f32, T = k0_pay15 (F := Ideal) L lanes k0_pay10 P M := ⟨_, rfl⟩
  obtain ⟨T16, h16'⟩ : ∃ T : IVec S512x1 32, T = k0_pay16 (F := Ideal) L lanes k0_pay10 P M := ⟨_, rfl⟩
  obtain ⟨T18, h18'⟩ : ∃ T : FVec Ideal S512x1 .f32, T = k0_pay18 (F := Ideal) L lanes k0_pay10 P M := ⟨_, rfl⟩
  obtain ⟨T19, h19'⟩ : ∃ T : IVec S512x1 32, T = k0_pay19 (F := Ideal) L lanes k0_pay10 P M := ⟨_, rfl⟩
  rw [← h15', ← h16', ← h18', ← h19']
  pointwise [k0_pay1, k0_pay13]

end

/-- The mixing weights of token `i`, of the row's logits. -/
theorem mixing (A : Args) (hA : A.Finite) (i : Fin 32768) (r : Fin 512) (v69 : FVec Ideal S512x1024 .f32) (v70 : FVec Ideal S1x1024 .f32) (v76 : FVec Ideal S1024x128 .f32) (v91 : FVec Ideal S1x128 .f32)
    (hh : ∀ k, v69 (ix2 r k) * v70 (ix2 (0 : Fin 1) k) = A.h2 i k)
    (we : ∀ (k : Fin 1024) (g : Fin 4) (a : Fin 8), v76 (ix2 k (Routing.el g a)) = A.we (ix2 k ⟨g.val * 8 + a.val, by omega⟩))
    (wr : ∀ (k : Fin 1024) (g : Fin 4), v76 (ix2 k (Routing.gl g)) = A.wr (ix2 k g))
    (be : ∀ (g : Fin 4) (a : Fin 8), v91 (ix2 (0 : Fin 1) (Routing.el g a)) = A.be (ix1 ⟨g.val * 8 + a.val, by omega⟩))
    (br : ∀ g : Fin 4, v91 (ix2 (0 : Fin 1) (Routing.gl g)) = A.br (ix1 g)) (n : Fin 128) :
    k0_pay1 (F := Ideal) lanes (k0_pay13 (k0_pay12 v69 v70 v76 v91)) (k0_pay16 (k0_pay9 v69 v70 v76 v91) lanes k0_pay10 (k0_pay11 v69 v70 v76 v91) (k0_pay12 v69 v70 v76 v91))
      (k0_pay19 (k0_pay9 v69 v70 v76 v91) lanes k0_pay10 (k0_pay11 v69 v70 v76 v91) (k0_pay12 v69 v70 v76 v91))
      (k0_pay20 (k0_pay9 v69 v70 v76 v91) lanes k0_pay10 (k0_pay11 v69 v70 v76 v91) (k0_pay12 v69 v70 v76 v91))
      (k0_pay21 (k0_pay9 v69 v70 v76 v91) lanes k0_pay10 (k0_pay11 v69 v70 v76 v91) (k0_pay12 v69 v70 v76 v91))
      (k0_pay22 (k0_pay9 v69 v70 v76 v91) lanes k0_pay10 (k0_pay11 v69 v70 v76 v91) (k0_pay12 v69 v70 v76 v91)) (ix2 r n) = comb A i n := by
  have hE : ∀ g a, k0_pay9 (F := Ideal) v69 v70 v76 v91 (ix2 r (Routing.el g a)) = A.eLogit i g a := fun g a =>
    logit v69 v70 v76 v91 r _ (A.h2 i) hh (h2_real A hA i) _ (fun k => we k g a) (fun k => hA.we k _) _ (be g a)
  have hG : ∀ g, k0_pay9 (F := Ideal) v69 v70 v76 v91 (ix2 r (Routing.gl g)) = A.gLogit i g := fun g =>
    logit v69 v70 v76 v91 r _ (A.h2 i) hh (h2_real A hA i) _ (fun k => wr k g) (fun k => hA.wr k g) _ (br g)
  have first : Routing.First (Routing.soft (A.gLogit i)) (group A i) := Routing.sorted_first (Routing.soft (A.gLogit i)) (by decide)
  rw [wts]
  simp only [experts]
  rw [topProb, show (fun n => k0_pay11 (F := Ideal) v69 v70 v76 v91 (ix2 r n)) = Routing.gProb (fun n => k0_pay9 (F := Ideal) v69 v70 v76 v91 (ix2 r n)) from
      funext fun n => probs v69 v70 v76 v91 r n,
    Routing.gLane_eq _ (A.gLogit i) hG (group A i) first, Routing.gTop _ (A.gLogit i) hG (group A i) first]
  refine (Routing.weights_eq (fun n => k0_pay9 (F := Ideal) v69 v70 v76 v91 (ix2 r n)) (group A i) _ (fun a => by rw [hE]; exact eLogit_real A hA i _ a)
    (expert A i (group A i) 0) (expert A i (group A i) 1) ?_ ?_ n).trans ?_
  · simp only [hE]
    exact Routing.sorted_first (A.eLogit i (group A i)) (by decide)
  · simp only [hE]
    exact Routing.sorted_second (A.eLogit i (group A i)) (by decide)
  · simp only [hE]
    rfl

end Cert.MergeIdeal.Block
end
-- ==== Proof.Merge.Value.lean ====
module

public import proofs.«01_k».proof.Proof.Merge.Reads
public import proofs.«01_k».proof.Proof.Merge.Block

@[expose] public section

set_option maxRecDepth 16384

noncomputable section

open Idealize.ShloMosaic Idealize.ShloMosaic.TcCoe Idealize.SL.Sem
open Idealize.ShloMosaic.Pipeline (Dat)

namespace Cert.MergeIdeal.Tokens
open Cert.MergeIdeal Cert.MergeIdeal.Gen Cert.Merge
variable (m : (ℓ : Loc nD τ sig) → Buf (Elt Ideal) ℓ)

/-- The first head of a block. -/
abbrev head0 (w : FVec Ideal S4x512x128 .f32) : FVec Ideal S1x512x128 .f32 := View.ld (Val := Elt Ideal) (e' := .f32) w (Rect.unit ![0, 0, 0] ![1, 512, 128] inb_S4x512x128_S1x512x128_0_0_0)
/-- The second head of a block. -/
abbrev head1 (w : FVec Ideal S4x512x128 .f32) : FVec Ideal S1x512x128 .f32 := View.ld (Val := Elt Ideal) (e' := .f32) w (Rect.unit ![1, 0, 0] ![1, 512, 128] inb_S4x512x128_S1x512x128_1_0_0)
/-- The third head of a block. -/
abbrev head2 (w : FVec Ideal S4x512x128 .f32) : FVec Ideal S1x512x128 .f32 := View.ld (Val := Elt Ideal) (e' := .f32) w (Rect.unit ![2, 0, 0] ![1, 512, 128] inb_S4x512x128_S1x512x128_2_0_0)
/-- The fourth head of a block. -/
abbrev head3 (w : FVec Ideal S4x512x128 .f32) : FVec Ideal S1x512x128 .f32 := View.ld (Val := Elt Ideal) (e' := .f32) w (Rect.unit ![3, 0, 0] ![1, 512, 128] inb_S4x512x128_S1x512x128_3_0_0)

/-- An entry of the first head. -/
theorem head0_entry (w : FVec Ideal S4x512x128 .f32) (r : Fin 512) (j : Fin 128) : head0 w (ix3 (0 : Fin 1) r j) = w (ix3 0 r j) := by
  pointwise [head0]
/-- An entry of the second head. -/
theorem head1_entry (w : FVec Ideal S4x512x128 .f32) (r : Fin 512) (j : Fin 128) : head1 w (ix3 (0 : Fin 1) r j) = w (ix3 1 r j) := by
  pointwise [head1]
/-- An entry of the third head. -/
theorem head2_entry (w : FVec Ideal S4x512x128 .f32) (r : Fin 512) (j : Fin 128) : head2 w (ix3 (0 : Fin 1) r j) = w (ix3 2 r j) := by
  pointwise [head2]
/-- An entry of the fourth head. -/
theorem head3_entry (w : FVec Ideal S4x512x128 .f32) (r : Fin 512) (j : Fin 128) : head3 w (ix3 (0 : Fin 1) r j) = w (ix3 3 r j) := by
  pointwise [head3]

/-- What the kernel reads at a grid point, row by row. -/
theorem row (c : Dev nD) (t : Fin cfg0.N) (r : Fin 512) (i : Fin 32768) (hi : i.val = t.val * 512 + r.val) :
    Block.Row (args m c) i r (head0 (iblk m c 0 t)) (head1 (iblk m c 0 t)) (head2 (iblk m c 0 t)) (head3 (iblk m c 0 t)) (iblk m c 6 t) (iblk m c 1 t) (iblk m c 7 t) (iblk m c 8 t)
      (iblk m c 9 t) (iblk m c 2 t) (iblk m c 10 t) (X0_3 m c t) (X0_4 m c t) (iblk m c 5 t) (iblk m c 11 t) (iblk m c 12 t) (iblk m c 13 t) (iblk m c 14 t) where
  y0 j := (head0_entry _ r j).trans (reads0 m c t 0 r j i hi)
  y1 j := (head1_entry _ r j).trans (reads0 m c t 1 r j i hi)
  y2 j := (head2_entry _ r j).trans (reads0 m c t 2 r j i hi)
  y3 j := (head3_entry _ r j).trans (reads0 m c t 3 r j i hi)
  d := reads6 m c t
  u k := reads1 m c t r k i hi
  wg := reads7 m c t
  bg := reads8 m c t
  ws := reads9 m c t
  att k := reads2 m c t r k i hi
  wa := reads10 m c t
  gs k := reads3 m c t r k i hi
  ga k := reads4 m c t r k i hi
  x k := reads5 m c t r k i hi
  wo := reads11 m c t
  g2 := reads12 m c t
  we := reads13e m c t
  wr := reads13g m c t
  be := reads14e m c t
  br := reads14g m c t

/-- The tokens as they are stored. -/
theorem stored (v69 : FVec Ideal S512x1024 .f32) (v70 : FVec Ideal S1x1024 .f32) (r : Fin 512) (k : Fin 1024) :
    (k0_pay8 (F := Ideal) v69 v70 : FVec Ideal S512x1024 .bf16) (ix2 r k) = v69 (ix2 r k) * v70 (ix2 (0 : Fin 1) k) := by
  pointwise [k0_pay8, k0_pay7]

/-- The residual stream returned. -/
theorem final15 (c : Dev nD) : (dats m 0 c).arrAt 15 (cfgs 0).N = (fun j => (args m c).x1 (j 0) (j 1) : FVec Ideal S32768x1024 .f32) := by
  refine (dats m 0 c).arrAt_eq_of_covers 15 _ (by decide +kernel) fun t _ y => ?_
  have e0 : (((cfg0.win 15).blk t).view.emb y 0).val = t.val * 512 + (y 0).val := by blk_simp [idx t]
  have e1 : ((cfg0.win 15).blk t).view.emb y 1 = y 1 := Fin.ext (by blk_simp [idx t])
  have hy : y = ix2 (y 0) (y 1) := by funext a; fin_cases a <;> rfl
  have R := row m c t (y 0) _ e0
  have key := Block.stream R (y 1)
  obtain ⟨v, hv⟩ : ∃ v : EReal, v = (args m c).x1 (((cfg0.win 15).blk t).view.emb y 0) (((cfg0.win 15).blk t).view.emb y 1) := ⟨_, rfl⟩
  refine Eq.trans ?_ hv
  rw [e1] at hv
  rw [← hv] at key
  blk_simp
  rw [after0_15]
  unfold outsAt0
  frame_out
  exact (congrArg _ hy).trans key

/-- The normalized tokens returned. -/
theorem final16 (c : Dev nD) : (dats m 0 c).arrAt 16 (cfgs 0).N = (fun j => (args m c).h2 (j 0) (j 1) : FVec Ideal S32768x1024 .bf16) := by
  refine (dats m 0 c).arrAt_eq_of_covers 16 _ (by decide +kernel) fun t _ y => ?_
  have e0 : (((cfg0.win 16).blk t).view.emb y 0).val = t.val * 512 + (y 0).val := by blk_simp [idx t]
  have e1 : ((cfg0.win 16).blk t).view.emb y 1 = y 1 := Fin.ext (by blk_simp [idx t])
  have hy : y = ix2 (y 0) (y 1) := by funext a; fin_cases a <;> rfl
  have R := row m c t (y 0) _ e0
  have key := (stored _ _ (y 0) (y 1)).trans (Block.tokens R (y 1))
  obtain ⟨v, hv⟩ : ∃ v : EReal, v = (args m c).h2 (((cfg0.win 16).blk t).view.emb y 0) (((cfg0.win 16).blk t).view.emb y 1) := ⟨_, rfl⟩
  refine Eq.trans ?_ hv
  rw [e1] at hv
  rw [← hv] at key
  blk_simp
  rw [after0_16]
  unfold outsAt0
  frame_out
  exact (congrArg _ hy).trans key

/-- The mixing weights returned. -/
theorem final17 (c : Dev nD) (hA : (args m c).Finite) : (dats m 0 c).arrAt 17 (cfgs 0).N = (fun j => comb (args m c) (j 0) (j 1) : FVec Ideal S32768x128 .f32) := by
  refine (dats m 0 c).arrAt_eq_of_covers 17 _ (by decide +kernel) fun t _ y => ?_
  have e0 : (((cfg0.win 17).blk t).view.emb y 0).val = t.val * 512 + (y 0).val := by blk_simp [idx t]
  have e1 : ((cfg0.win 17).blk t).view.emb y 1 = y 1 := Fin.ext (by blk_simp [idx t])
  have hy : y = ix2 (y 0) (y 1) := by funext a; fin_cases a <;> rfl
  have R := row m c t (y 0) _ e0
  have key := Block.mixing (args m c) hA _ (y 0) _ _ _ _ (Block.tokens R) R.we R.wr R.be R.br (y 1)
  obtain ⟨v, hv⟩ : ∃ v : EReal, v = comb (args m c) (((cfg0.win 17).blk t).view.emb y 0) (((cfg0.win 17).blk t).view.emb y 1) := ⟨_, rfl⟩
  refine Eq.trans ?_ hv
  rw [e1] at hv
  rw [← hv] at key
  blk_simp
  rw [after0_17]
  unfold outsAt0
  frame_out
  exact (congrArg _ hy).trans key

end Cert.MergeIdeal.Tokens
end
-- ==== Proof.Merge.Finite.lean ====
/- What the second precondition says of the memory: the norm's gain, the router's matrices and the experts' bias hold real numbers. -/
module

public import proofs.«01_k».proof.Defs
public import proofs.«01_k».proof.Proof.Gen.Pre_finite_router
public import proofs.«01_k».proof.Proof.InProj.Finite
public import proofs.«01_k».proof.Proof.Merge.Rows

@[expose] public section

noncomputable section

open Idealize.ShloMosaic

namespace Cert.Merge
open Cert.Rotation Cert.InProjIdeal.Finite

/-- The precondition, read. -/
theorem finite_of_pre (A : Args) [Cert.Pre_finite_router.Facts]
    (h : Cert.Pre_finite_router.fn (F := Ideal) A.y A.u A.att A.x A.d A.wg A.bg A.ws A.wa A.wo A.g2 A.wr A.br A.we A.be = fun _ => 1#1) : A.Finite := by
  have h1 := congrFun h (fun a => a.elim0)
  unfold Cert.Pre_finite_router.fn at h1
  simp only [] at h1
  have hand : ∀ p q : BitVec 1, IntOp.andi p q = 1#1 → p = 1#1 ∧ q = 1#1 := by decide
  obtain ⟨h2, hbe⟩ := hand _ _ h1
  obtain ⟨h3, hwe⟩ := hand _ _ h2
  obtain ⟨hg, hwr⟩ := hand _ _ h3
  haveI : Subsingleton Cert.Pre_finite_router.S_.Idx := ⟨fun a b => funext fun i => i.elim0⟩
  exact ⟨fun k => real_of_bit _ (Host.reduce_andi_all _ _ _ _ _ hg _), fun k g => real_of_bit _ (Host.reduce_andi_all _ _ _ _ _ hwr _),
    fun k n => real_of_bit _ (Host.reduce_andi_all _ _ _ _ _ hwe _), fun n => real_of_bit _ (Host.reduce_andi_all _ _ _ _ _ hbe _)⟩

end Cert.Merge
end
-- ==== Proof.Merge.Ref.lean ====
module

public import proofs.«01_k».proof.Proof.Gen.MergeRefIdeal.Run
public import proofs.«01_k».proof.Proof.Merge.Rows

@[expose] public section

set_option maxRecDepth 16384

noncomputable section

open Idealize.ShloMosaic Idealize.ShloMosaic.TcCoe Idealize.SL.Sem

namespace Cert.MergeRefIdeal.Rows
open Cert.MergeRefIdeal Cert.MergeRefIdeal.Gen Cert.MergeRefIdeal.Value Cert.Merge

variable (V : Valuation τ sig (Elt Ideal))

/-- The reference's arguments. -/
def args : Args where
  y := V (Proc.devRef .tc main_arg0)
  u := V (Proc.devRef .tc main_arg1)
  att := V (Proc.devRef .tc main_arg2)
  x := V (Proc.devRef .tc main_arg3)
  d := V (Proc.devRef .tc main_arg4)
  wg := V (Proc.devRef .tc main_arg5)
  bg := V (Proc.devRef .tc main_arg6)
  ws := V (Proc.devRef .tc main_arg7)
  wa := V (Proc.devRef .tc main_arg8)
  wo := V (Proc.devRef .tc main_arg9)
  g2 := V (Proc.devRef .tc main_arg10)
  wr := V (Proc.devRef .tc main_arg11)
  br := V (Proc.devRef .tc main_arg12)
  we := V (Proc.devRef .tc main_arg13)
  be := V (Proc.devRef .tc main_arg14)

theorem pre_entry (r : Fin 32768) (k : Fin 512) : (res_main_v8 V : FVec Ideal S32768x512 .f32) (ix2 r k) = (args V).pre r k := by
  pointwise [res_main_v8]
  rfl

theorem gelu_entry (r : Fin 32768) (k : Fin 512) : (res_main_v21 V : FVec Ideal S32768x512 .f32) (ix2 r k) = gelu ((args V).pre r k) := by
  rw [← pre_entry]
  unfold res_main_v21
  obtain ⟨X, hX⟩ : ∃ X : FVec Ideal S32768x512 .f32, X = res_main_v8 V := ⟨_, rfl⟩
  rw [← hX]
  pointwise [gelu]

/-- The residual stream, entry by entry. -/
theorem x1_entry (r : Fin 32768) (k : Fin 1024) : (res_main_v52 V : FVec Ideal S32768x1024 .f32) (ix2 r k) = (args V).x1 r k := by
  unfold Args.x1
  simp only [← gelu_entry]
  unfold res_main_v52
  obtain ⟨X, hX⟩ : ∃ X : FVec Ideal S32768x512 .f32, X = res_main_v21 V := ⟨_, rfl⟩
  rw [← hX]
  pointwise [mix]
  rfl

/-- The normalized tokens, entry by entry. -/
theorem h2_entry (r : Fin 32768) (k : Fin 1024) : (res_main_v65 V : FVec Ideal S32768x1024 .f32) (ix2 r k) = (args V).h2 r k := by
  have e : (args V).x1 r = fun k => (res_main_v52 V : FVec Ideal S32768x1024 .f32) (ix2 r k) := funext fun k => (x1_entry V r k).symm
  unfold Args.h2
  rw [e]
  unfold res_main_v65
  obtain ⟨X, hX⟩ : ∃ X : FVec Ideal S32768x1024 .f32, X = res_main_v52 V := ⟨_, rfl⟩
  rw [← hX]
  pointwise [normed]
  rfl

theorem gLogit_entry (r : Fin 32768) (g : Fin 4) : (res_main_v69 V : FVec Ideal S32768x4 .f32) (ix2 r g) = (args V).gLogit r g := by
  unfold Args.gLogit
  simp only [← h2_entry]
  unfold res_main_v69
  obtain ⟨X, hX⟩ : ∃ X : FVec Ideal S32768x1024 .f32, X = res_main_v65 V := ⟨_, rfl⟩
  rw [← hX]
  pointwise
  rfl

/-- The groups' probabilities, entry by entry. -/
theorem soft_entry (r : Fin 32768) (g : Fin 4) : (res_main_v80 V : FVec Ideal S32768x4 .f32) (ix2 r g) = Routing.soft ((args V).gLogit r) g := by
  have e : (args V).gLogit r = fun g => (res_main_v69 V : FVec Ideal S32768x4 .f32) (ix2 r g) := funext fun g => (gLogit_entry V r g).symm
  rw [e]
  unfold res_main_v80 res_main_v76
  obtain ⟨X, hX⟩ : ∃ X : FVec Ideal S32768x4 .f32, X = res_main_v69 V := ⟨_, rfl⟩
  rw [← hX]
  pointwise
  rw [Routing.ninf]
  simp only [max_bot_left]
  exact congrArg (fun M : EReal => Ideal.div (Ideal.exp (X (ix2 r g) - M)) (∑ x : Fin 4, Ideal.exp (X (ix2 r x) - M)))
    (Shape.ReducesTo.fold_fiber_r2_a1 reducesTo_S32768x4_S32768_d1 (ix1 r) (max : EReal → EReal → EReal) ⊥ X)

/-- Taking the greatest entries of a row reads them, and their positions, in the order of descending entries. -/
theorem topK_read {n k : ℕ} (h : (⟨2, ![32768, n]⟩ : Shape).Slices (fun _ => 0) ⟨2, ![32768, k]⟩) (X : FVec Ideal ⟨2, ![32768, n]⟩ .f32)
    (f : Fin n → EReal) (r : Fin 32768) (hf : ∀ a, X (ix2 r a) = f a) (s : Fin k) (hs : s.val < n) :
    (Host.topK ⟨2, ![32768, k]⟩ 1 (FloatOps.cmpfTotal .gt) X h).1 (ix2 r s) = f (sortedFrom (fun x y => decide (f y < f x)) ⟨s.val, hs⟩)
      ∧ (Host.topK ⟨2, ![32768, k]⟩ 1 (FloatOps.cmpfTotal .gt) X h).2 (ix2 r s) = BitVec.ofNat 32 (sortedFrom (fun x y => decide (f y < f x)) ⟨s.val, hs⟩).val := by
  obtain rfl : (fun a => X (ix2 r a)) = f := funext hf
  have al : ∀ k : Fin n, Shape.Idx.along (s := ⟨2, ![32768, n]⟩) (ix2 r (⟨s.val, hs⟩ : Fin n)) (1 : Fin 2) k = ix2 r k := fun k =>
    funext fun a => by fin_cases a <;> rfl
  have cmp : ∀ x y : EReal, (Ideal.cmpTotal .gt x y == 1#1) = decide (y < x) := fun x y => by
    show (BitVec.ofBool (decide (y < x)) == 1#1) = _
    by_cases h : y < x <;> simp [h]
  have hσ : sortedFrom (fun k k' : Fin n => Ideal.cmpTotal .gt (X (Shape.Idx.along (s := ⟨2, ![32768, n]⟩) (ix2 r (⟨s.val, hs⟩ : Fin n)) (1 : Fin 2) k))
      (X (Shape.Idx.along (s := ⟨2, ![32768, n]⟩) (ix2 r (⟨s.val, hs⟩ : Fin n)) (1 : Fin 2) k')) == 1#1) ⟨s.val, hs⟩
      = sortedFrom (fun x y => decide (X (ix2 r y) < X (ix2 r x))) ⟨s.val, hs⟩ := by simp only [al, cmp]
  have at_ : ∀ j : (⟨2, ![32768, n]⟩ : Shape).Idx, (j 0).val = r.val → (j 1).val = s.val → j = ix2 r (⟨s.val, hs⟩ : Fin n) := fun j h0 h1 =>
    funext fun a => by
      fin_cases a
      · exact Fin.ext h0
      · exact Fin.ext h1
  have first : ∀ (I : IVec ⟨2, ![32768, n]⟩ 32) (j : (⟨2, ![32768, n]⟩ : Shape).Idx), (j 0).val = r.val → (j 1).val = s.val →
      (Host.sort2 ⟨2, ![32768, n]⟩ 1 (fun l r : Ideal .f32 × BitVec 32 => FloatOps.cmpfTotal .gt l.1 r.1) X I).1 j
        = X (ix2 r (sortedFrom (fun x y => decide (X (ix2 r y) < X (ix2 r x))) ⟨s.val, hs⟩)) := fun I j h0 h1 => by
    rw [at_ j h0 h1]
    exact (congrArg X (al _)).trans (congrArg (fun q => X (ix2 r q)) hσ)
  have second : ∀ (I : IVec ⟨2, ![32768, n]⟩ 32) (j : (⟨2, ![32768, n]⟩ : Shape).Idx), (j 0).val = r.val → (j 1).val = s.val →
      (Host.sort2 ⟨2, ![32768, n]⟩ 1 (fun l r : Ideal .f32 × BitVec 32 => FloatOps.cmpfTotal .gt l.1 r.1) X I).2 j
        = I (ix2 r (sortedFrom (fun x y => decide (X (ix2 r y) < X (ix2 r x))) ⟨s.val, hs⟩)) := fun I j h0 h1 => by
    rw [at_ j h0 h1]
    exact (congrArg I (al _)).trans (congrArg (fun q => I (ix2 r q)) hσ)
  refine ⟨first (fun i => iotaInDim ⟨2, ![32768, n]⟩ 32 (1 : Fin 2) i) _ (Nat.zero_add _) (Nat.zero_add _), ?_⟩
  exact second (fun i => iotaInDim ⟨2, ![32768, n]⟩ 32 (1 : Fin 2) i) (fun a => ⟨0 + ((ix2 r s : (⟨2, ![32768, k]⟩ : Shape).Idx) (a.cast h.1.symm)).val, _⟩) (Nat.zero_add _) (Nat.zero_add _)

end Cert.MergeRefIdeal.Rows
end
-- ==== Proof.Merge.RefComb.lean ====
module

public import proofs.«01_k».proof.Proof.Merge.Ref

@[expose] public section

set_option maxRecDepth 16384

noncomputable section

open Idealize.ShloMosaic Idealize.ShloMosaic.TcCoe Idealize.SL.Sem

namespace Cert.MergeRefIdeal.Rows
open Cert.MergeRefIdeal Cert.MergeRefIdeal.Gen Cert.MergeRefIdeal.Value Cert.Merge

variable (V : Valuation τ sig (Elt Ideal))

/-- The position of the chosen group. -/
theorem indices_entry (r : Fin 32768) : (res_main_indices V : IVec S32768x1 32) (ix2 r (0 : Fin 1)) = BitVec.ofNat 32 (group (args V) r).val :=
  (topK_read sliceFits_S32768x4_S32768x1 (res_main_v80 V) (Routing.soft ((args V).gLogit r)) r (soft_entry V r) (0 : Fin 1) (by decide)).2

/-- The probability of the chosen group. -/
theorem values_entry (r : Fin 32768) :
    ((Host.topK S32768x1 1 (FloatOps.cmpfTotal .gt) (res_main_v80 V) sliceFits_S32768x4_S32768x1).1 : FVec Ideal S32768x1 .f32) (ix2 r (0 : Fin 1))
      = Routing.soft ((args V).gLogit r) (group (args V) r) :=
  (topK_read sliceFits_S32768x4_S32768x1 (res_main_v80 V) (Routing.soft ((args V).gLogit r)) r (soft_entry V r) (0 : Fin 1) (by decide)).1

/-- An equality bit of two small numbers, as a number. -/
theorem flag (g x : ℕ) (hg : g < 128) (hx : x < 128) :
    FloatOps.uitofp (F := Ideal) .f32 (IntOp.cmpi .eq (BitVec.ofNat 32 g) (BitVec.ofNat 32 x)) = if g = x then (1 : EReal) else 0 := by
  show (((IntOp.cmpi .eq (BitVec.ofNat 32 g) (BitVec.ofNat 32 x)).toNat : ℝ) : EReal) = _
  by_cases h : g = x
  · subst h
    simp [IntOp.cmpi]
  · have : BitVec.ofNat 32 g ≠ BitVec.ofNat 32 x := fun e => h (by
      have := congrArg BitVec.toNat e
      simp only [BitVec.toNat_ofNat] at this
      omega)
    simp [IntOp.cmpi, this, h]

/-- A sum against an equality bit picks one term. -/
theorem pick (g : Fin 4) (w : BitVec 32) (hw : w = BitVec.ofNat 32 g.val) (f : Fin 4 → EReal) :
    ∑ x : Fin 4, f x * FloatOps.uitofp (F := Ideal) .f32 (IntOp.cmpi .eq w (BitVec.ofNat 32 x.val)) = f g := by
  subst hw
  have e : ∀ x : Fin 4, FloatOps.uitofp (F := Ideal) .f32 (IntOp.cmpi .eq (BitVec.ofNat 32 g.val) (BitVec.ofNat 32 x.val)) = if g.val = x.val then (1 : EReal) else 0 :=
    fun x => flag g.val x.val (by omega) (by omega)
  rw [Finset.sum_eq_single g]
  · rw [e, if_pos rfl, mul_one]
  · intro x _ hx
    rw [e, if_neg (fun h => hx (Fin.ext h.symm)), mul_zero]
  · exact fun h => absurd (Finset.mem_univ _) h

/-- The chosen group's experts' logits. -/
theorem eLogit_entry (r : Fin 32768) (a : Fin 8) : (res_main_v88 V : FVec Ideal S32768x8 .f32) (ix2 r a) = (args V).eLogit r (group (args V) r) a := by
  have hI := indices_entry V r
  unfold Args.eLogit
  simp only [← h2_entry]
  generalize group (args V) r = g at *
  unfold res_main_v88
  obtain ⟨X, hX⟩ : ∃ X : FVec Ideal S32768x1024 .f32, X = res_main_v65 V := ⟨_, rfl⟩
  obtain ⟨I, hI'⟩ : ∃ I : IVec S32768x1 32, I = res_main_indices V := ⟨_, rfl⟩
  rw [← hI'] at hI
  rw [← hX, ← hI']
  pointwise
  exact pick g _ hI (fun x : Fin 4 => ∑ q : Fin 1024, X (ix2 r q) * (args V).we (ix2 q ⟨x.val * 8 + a.val, by omega⟩) + (args V).be (ix1 ⟨x.val * 8 + a.val, by omega⟩))

/-- The mixing weights as the reference writes them, of the four arrays they are made from. -/
def combOf (E : FVec Ideal S32768x2 .f32) (I : IVec S32768x1 32) (J : IVec S32768x2 32) (G : FVec Ideal S32768x1 .f32) : FVec Ideal S32768x128 .f32 :=
  pad S32768x128 ![0, 0] ![0, 96] ![0, 0] (Host.reduceAdd (mulf (uitofp .f32 (cmpi .eq (broadcastInDim S32768x2x32 ![0, 1, 2] bcast_S32768x2x1_S32768x2x32_0_1_2 (broadcastInDim S32768x2x1 ![0, 1] bcast_S32768x2_S32768x2x1_0_1 (addi (broadcastInDim S32768x2 ![0, 1] bcast_S32768x1_S32768x2_0_1 (muli I (broadcastInDim S32768x1 ![] bcast_S_S32768x1 (constantI S_ 32 8#32)))) J))) (broadcastInDim S32768x2x32 ![0, 1, 2] bcast_S1x1x32_S32768x2x32_0_1_2 (iotaInDim S1x1x32 32 2)))) (broadcastInDim S32768x2x32 ![0, 1, 2] bcast_S32768x2x1_S32768x2x32_0_1_2 (broadcastInDim S32768x2x1 ![0, 1] bcast_S32768x2_S32768x2x1_0_1 (mulf (Host.divf E (broadcastInDim S32768x2 ![0, 1] bcast_S32768x1_S32768x2_0_1 (broadcastInDim S32768x1 ![0] bcast_S32768_S32768x1_0 (Host.reduceAdd E (constant S_ .f32 0x00000000#32) reducesTo_S32768x2_S32768_d1 h_S_)))) (broadcastInDim S32768x2 ![0, 1] bcast_S32768x1_S32768x2_0_1 G))))) (constant S_ .f32 0x00000000#32) reducesTo_S32768x2x32_S32768x32_d1 h_S_) (sitofp .f32 (constantI S_ 32 0#32)) pads_S32768x32_S32768x128_000_0960 h_S_

/-- The mixing weights, from the two chosen experts' weights before scaling. -/
theorem combOf_entry (E : FVec Ideal S32768x2 .f32) (I : IVec S32768x1 32) (J : IVec S32768x2 32) (G : FVec Ideal S32768x1 .f32)
    (r : Fin 32768) (k : Fin 128) (g : Fin 4) (a b : Fin 8) (hab : b ≠ a) (gp e : EReal) (hI : I (ix2 r (0 : Fin 1)) = BitVec.ofNat 32 g.val)
    (hJ0 : J (ix2 r (0 : Fin 2)) = BitVec.ofNat 32 a.val) (hJ1 : J (ix2 r (1 : Fin 2)) = BitVec.ofNat 32 b.val)
    (hE0 : E (ix2 r (0 : Fin 2)) = 1) (hE1 : E (ix2 r (1 : Fin 2)) = e) (hG : G (ix2 r (0 : Fin 1)) = gp) :
    combOf E I J G (ix2 r k) = if k = Routing.el g a then Ideal.div 1 (1 + e) * gp else if k = Routing.el g b then Ideal.div e (1 + e) * gp else 0 := by
  have word : ∀ x : Fin 8, IntOp.addi (IntOp.muli (BitVec.ofNat 32 g.val) 8#32) (BitVec.ofNat 32 x.val) = BitVec.ofNat 32 (Routing.el g x).val := fun x => by
    show BitVec.ofNat 32 g.val * BitVec.ofNat 32 8 + BitVec.ofNat 32 x.val = _
    rw [← BitVec.ofNat_mul, ← BitVec.ofNat_add]
    rfl
  have bit : ∀ x : Fin 8, FloatOps.uitofp (F := Ideal) .f32 (IntOp.cmpi .eq (BitVec.ofNat 32 (Routing.el g x).val) (BitVec.ofNat 32 k.val))
      = if k = Routing.el g x then (1 : EReal) else 0 := fun x => by
    rw [flag _ _ (Routing.el g x).isLt k.isLt]
    simp only [Fin.ext_iff, eq_comm]
  have ne : Routing.el g a ≠ Routing.el g b := fun h => hab (Fin.ext (by have := congrArg Fin.val h; simp only [Routing.el] at this; omega))
  unfold combOf
  pointwise
  by_cases hk : k.val < 32
  · rw [dif_pos hk]
    refine (Fin.sum_univ_two _).trans ?_
    rw [Fin.sum_univ_two]
    simp only [hE0, hE1, hJ0, hJ1]
    erw [hI, hG, word, word, bit, bit]
    by_cases h0 : k = Routing.el g a
    · rw [if_pos h0, if_pos h0, if_neg (fun h => ne (h0.symm.trans h)), one_mul, zero_mul, add_zero]
    · rw [if_neg h0, if_neg h0, zero_mul, zero_add]
      by_cases h1 : k = Routing.el g b
      · rw [if_pos h1, if_pos h1, one_mul]
      · rw [if_neg h1, if_neg h1, zero_mul]
  · rw [dif_neg hk]
    have lt : ∀ x : Fin 8, k ≠ Routing.el g x := fun x h => hk (by rw [h]; simp only [Routing.el]; omega)
    rw [if_neg (lt a), if_neg (lt b)]
    show (((0#32 : BitVec 32).toInt : ℝ) : EReal) = 0
    simp

/-- The two greatest experts' logits of the chosen group. -/
theorem top2_entry (r : Fin 32768) (s : Fin 2) (hs : s.val < 8) :
    (res_main_values_15 V : FVec Ideal S32768x2 .f32) (ix2 r s) = (args V).eLogit r (group (args V) r) (expert (args V) r (group (args V) r) ⟨s.val, hs⟩) :=
  (topK_read sliceFits_S32768x8_S32768x2 (res_main_v88 V) ((args V).eLogit r (group (args V) r)) r (eLogit_entry V r) s hs).1

/-- Their positions. -/
theorem pos2_entry (r : Fin 32768) (s : Fin 2) (hs : s.val < 8) :
    ((Host.topK S32768x2 1 (FloatOps.cmpfTotal .gt) (res_main_v88 V) sliceFits_S32768x8_S32768x2).2 : IVec S32768x2 32) (ix2 r s)
      = BitVec.ofNat 32 (expert (args V) r (group (args V) r) ⟨s.val, hs⟩).val :=
  (topK_read sliceFits_S32768x8_S32768x2 (res_main_v88 V) ((args V).eLogit r (group (args V) r)) r (eLogit_entry V r) s hs).2

/-- The greatest expert's logit is at least the second's. -/
theorem le_first (A : Args) (r : Fin 32768) (g : Fin 4) (x : Fin 8) : A.eLogit r g x ≤ A.eLogit r g (expert A r g 0) :=
  (Routing.sorted_first (A.eLogit r g) (by decide)).le x

/-- The exponentials of the two logits less the greater. -/
theorem exps_entry (r : Fin 32768) (s : Fin 2) (hs : s.val < 8) : (res_main_v95 V : FVec Ideal S32768x2 .f32) (ix2 r s)
    = Ideal.exp ((args V).eLogit r (group (args V) r) (expert (args V) r (group (args V) r) ⟨s.val, hs⟩)
        - (args V).eLogit r (group (args V) r) (expert (args V) r (group (args V) r) 0)) := by
  have h0 := top2_entry V r 0 (by decide)
  have h1 := top2_entry V r 1 (by decide)
  have h := top2_entry V r s hs
  have le := le_first (args V) r (group (args V) r) (expert (args V) r (group (args V) r) 1)
  unfold res_main_v95
  obtain ⟨X, hX⟩ : ∃ X : FVec Ideal S32768x2 .f32, X = res_main_values_15 V := ⟨_, rfl⟩
  rw [← hX] at h h0 h1
  rw [← hX]
  pointwise
  rw [Routing.ninf]
  simp only [max_bot_left]
  have hM : (Finset.univ.filter fun i => reducesTo_S32768x2_S32768_d1.drop i = ix1 r).fold (max : EReal → EReal → EReal) ⊥ X = X (ix2 r (0 : Fin 2)) := by
    refine (Shape.ReducesTo.fold_fiber_r2_a1 reducesTo_S32768x2_S32768_d1 (ix1 r) (max : EReal → EReal → EReal) ⊥ X).trans ?_
    refine le_antisymm ((Finset.fold_max_le _).mpr ⟨bot_le, fun x _ => ?_⟩) ((Finset.le_fold_max _).mpr (Or.inr ⟨0, Finset.mem_univ _, le_rfl⟩))
    fin_cases x
    · exact le_rfl
    · exact @le_trans EReal _ _ _ _ (@le_of_eq EReal _ _ _ h1) (@le_trans EReal _ _ _ _ le (@le_of_eq EReal _ _ _ h0.symm))
  rw [← h]
  refine (congrArg (fun M : EReal => Ideal.exp (X (ix2 r s) - M)) hM).trans ?_
  exact congrArg (fun M : EReal => Ideal.exp (X (ix2 r s) - M)) h0

/-- The mixing weights, entry by entry, where the routing's arguments are finite. -/
theorem comb_entry (hA : (args V).Finite) (r : Fin 32768) (k : Fin 128) :
    combOf (res_main_v95 V) (res_main_indices V) (Host.topK S32768x2 1 (FloatOps.cmpfTotal .gt) (res_main_v88 V) sliceFits_S32768x8_S32768x2).2
      (Host.topK S32768x1 1 (FloatOps.cmpfTotal .gt) (res_main_v80 V) sliceFits_S32768x4_S32768x1).1 (ix2 r k) = comb (args V) r k :=
  combOf_entry _ _ _ _ r k (group (args V) r) (expert (args V) r (group (args V) r) 0) (expert (args V) r (group (args V) r) 1)
    (Routing.sorted_second ((args V).eLogit r (group (args V) r)) (by decide)).1 _ _ (indices_entry V r) (pos2_entry V r 0 (by decide)) (pos2_entry V r 1 (by decide))
    ((exps_entry V r 0 (by decide)).trans (Routing.two_soft _ 0 (eLogit_real _ hA r _ _))) (exps_entry V r 1 (by decide)) (values_entry V r)

end Cert.MergeRefIdeal.Rows
end
-- ==== Proof.Merge.Result.lean ====
module

public import proofs.«01_k».proof.Proof.Merge.Value
public import proofs.«01_k».proof.Proof.Merge.Finite
public import proofs.«01_k».proof.Proof.Merge.RefComb
public import proofs.«01_k».proof.Proof.Gen.MergeRefIdeal.Run
public import Idealize.ShloMosaic.Lib.Claim

@[expose] public section

set_option maxRecDepth 16384

noncomputable section

open Idealize.ShloMosaic Idealize.ShloMosaic.TcCoe Idealize.SL.Sem

namespace Cert.MergeIdeal.Tokens
open Cert.MergeIdeal Cert.MergeIdeal.Gen Cert.Merge
variable (m : (ℓ : Loc nD τ sig) → Buf (Elt Ideal) ℓ)

set_option maxHeartbeats 2000000 in
/-- Kernel and reference return equal arrays when the norm's gain, the router's matrices and the experts' bias hold real
    numbers. -/
theorem result [hPre : Cert.Pre_finite_router.Facts] : Cert.algebraic_MergeIdeal_MergeRefIdeal_pre_finite_router := by
  pair_intro
  · run_from Cert.MergeIdeal.Value.run_blocks m g
  · have same : ∀ c : Dev nD, _ → Cert.MergeRefIdeal.Rows.args (StableHlo.launchContents m' c) = args m c := fun c h => (Args.mk.injEq ..).mpr h
    run_from Cert.MergeRefIdeal.Value.run m' g'
    · refine Eq.trans ?_ (final15 m c).symm
      funext i
      have hi : i = ix2 (i 0) (i 1) := by funext a; fin_cases a <;> rfl
      exact (congrArg _ hi).trans ((Cert.MergeRefIdeal.Rows.x1_entry (StableHlo.launchContents m' c) (i 0) (i 1)).trans (congrArg (fun A : Args => A.x1 (i 0) (i 1)) (same c (hagree c))))
    · refine Eq.trans ?_ (final16 m c).symm
      funext i
      have hi : i = ix2 (i 0) (i 1) := by funext a; fin_cases a <;> rfl
      exact (congrArg _ hi).trans ((Cert.MergeRefIdeal.Rows.h2_entry (StableHlo.launchContents m' c) (i 0) (i 1)).trans (congrArg (fun A : Args => A.h2 (i 0) (i 1)) (same c (hagree c))))
    · have hA : (args m c).Finite := finite_of_pre (args m c) (hpre c)
      have hs := same c (hagree c)
      refine Eq.trans ?_ (final17 m c hA).symm
      funext i
      have hi : i = ix2 (i 0) (i 1) := by funext a; fin_cases a <;> rfl
      have key := Cert.MergeRefIdeal.Rows.comb_entry (StableHlo.launchContents m' c) (by rw [hs]; exact hA) (i 0) (i 1)
      rw [hs] at key
      exact (congrArg _ hi).trans key

end Cert.MergeIdeal.Tokens
end
-- ==== Proof.lean ====
module

public import proofs.«01_k».proof.Defs
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.MoeIdeal.Value
public import proofs.«01_k».proof.Proof.Gen.MoeRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Pre_finite
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Pre_finite_router
public import proofs.«01_k».proof.Proof.Moe.Value
public import proofs.«01_k».proof.Proof.InProj.Result
public import proofs.«01_k».proof.Proof.Merge.Result
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The experts' kernel at machine formats. -/
theorem frame_moe : Cert.quiescent_Moe := fun m g _ => Cert.Moe.Gen.frame m g

/-- The experts' kernel over the extended reals. -/
theorem frame_moe_ideal : Cert.quiescent_MoeIdeal := fun m g _ => Cert.MoeIdeal.Gen.frame m g

/-- The experts' reference. -/
theorem frame_moe_ref : Cert.quiescent_MoeRefIdeal := fun m g _ =>
  (θ_run Cert.MoeRefIdeal.defs _ _).mono (fun r h => ⟨fun c => (h c).2, sem_eq_zero_of_no_sems (by decide) r.2⟩)
    (Cert.MoeRefIdeal.Value.run (F := Ideal) m g)

/-- The input projection's kernel at machine formats. -/
theorem frame_in : Cert.quiescent_InProj := fun m g _ => Cert.InProj.Gen.frame m g

/-- The input projection's kernel over the extended reals. -/
theorem frame_in_ideal : Cert.quiescent_InProjIdeal := fun m g _ => Cert.InProjIdeal.Gen.frame m g

/-- The input projection's reference. -/
theorem frame_in_ref : Cert.quiescent_InProjRefIdeal := fun m g _ =>
  (θ_run Cert.InProjRefIdeal.defs _ _).mono (fun r h => ⟨fun c => (h c).2.2.2.2.2, sem_eq_zero_of_no_sems (by decide) r.2⟩)
    (Cert.InProjRefIdeal.Staged.run m g)

/-- The merge's kernel at machine formats. -/
theorem frame_merge : Cert.quiescent_Merge := fun m g _ => Cert.Merge.Gen.frame m g

/-- The merge's kernel over the extended reals. -/
theorem frame_merge_ideal : Cert.quiescent_MergeIdeal := fun m g _ => Cert.MergeIdeal.Gen.frame m g

/-- The merge's reference. -/
theorem frame_merge_ref : Cert.quiescent_MergeRefIdeal := fun m g _ =>
  (θ_run Cert.MergeRefIdeal.defs _ _).mono (fun r h => ⟨fun c => (h c).2.2.2, sem_eq_zero_of_no_sems (by decide) r.2⟩)
    (Cert.MergeRefIdeal.Value.run (F := Ideal) m g)

/-- Everything claimed. -/
theorem claim : Cert.Claim := ⟨Cert.Moe.Gen.facts, Cert.MoeIdeal.Gen.facts, Cert.MoeRefIdeal.Gen.facts,
  Cert.InProj.Gen.facts, Cert.InProjIdeal.Gen.facts, Cert.InProjRefIdeal.Gen.facts,
  Cert.Merge.Gen.facts, Cert.MergeIdeal.Gen.facts, Cert.MergeRefIdeal.Gen.facts, Cert.Pre_finite.Gen.facts, Cert.Pre_finite_router.Gen.facts,
  frame_moe, frame_moe_ideal, frame_moe_ref, frame_in, frame_in_ideal, fun m g _ => frame_in_ideal m g trivial, frame_in_ref,
  fun m g _ => frame_in_ref m g trivial, frame_merge, frame_merge_ideal, fun m g _ => frame_merge_ideal m g trivial, frame_merge_ref,
  fun m g _ => frame_merge_ref m g trivial, trivial, Cert.MoeIdeal.Tokens.result, trivial, Cert.InProjIdeal.Tokens.result,
  trivial, Cert.MergeIdeal.Tokens.result⟩

end Cert.Proof

end
